-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 2048]⟩ ⟨2, ![32768, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 2048]⟩ ⟨2, ![32768, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048 : Shape := ⟨1, ![2048]⟩
abbrev S2x2048 : Shape := ⟨2, ![2, 2048]⟩
abbrev S16x2x2048 : Shape := ⟨3, ![16, 2, 2048]⟩
abbrev S2x16 : Shape := ⟨2, ![2, 16]⟩
abbrev S15 : Shape := ⟨1, ![15]⟩
abbrev S1x1 : Shape := ⟨2, ![1, 1]⟩
abbrev S_ : Shape := ⟨0, ![]⟩
abbrev S128x2048 : Shape := ⟨2, ![128, 2048]⟩
abbrev S128 : Shape := ⟨1, ![128]⟩
abbrev S128x1 : Shape := ⟨2, ![128, 1]⟩
abbrev S1x2048 : Shape := ⟨2, ![1, 2048]⟩
abbrev S1x2x2048 : Shape := ⟨3, ![1, 2, 2048]⟩
abbrev S1 : Shape := ⟨1, ![1]⟩

abbrev nBuf : Space → Nat
  | .hbm => 4
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2x2048, .f32⟩
  | .local _ .vmem, ⟨0, _⟩ => ⟨S2x2048, .f32⟩
  | .local _ .vmem, ⟨1, _⟩ => ⟨S2048x2048, .f32⟩
  | .local _ .vmem, ⟨2, _⟩ => ⟨S2048x2048, .f32⟩
  | .local _ .vmem, ⟨3, _⟩ => ⟨S16x2x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_162 : BitVec 32 := 1#32
  let v132 : BitVec 32 := Scalar.addi v2 c1_i32_162
  let c16_i32_163 : BitVec 32 := 16#32
  let v133 : BitVec 32 := Scalar.remsi v132 c16_i32_163
  let c1_i32_165 : BitVec 32 := 1#32
  let v134 : BitVec 32 := Scalar.muli v133 c1_i32_165
  let v135 : BitVec 32 := Scalar.addi c0_i32_166 v134
  v135.toNat
def k0_dev2 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_167 : BitVec 32 := 2#32
  let v136 : BitVec 32 := Scalar.addi v2 c2_i32_167
  let c16_i32_168 : BitVec 32 := 16#32
  let v137 : BitVec 32 := Scalar.remsi v136 c16_i32_168
  let c1_i32_170 : BitVec 32 := 1#32
  let v138 : BitVec 32 := Scalar.muli v137 c1_i32_170
  let v139 : BitVec 32 := Scalar.addi c0_i32_171 v138
  v139.toNat
def k0_dev3 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_172 : BitVec 32 := 3#32
  let v140 : BitVec 32 := Scalar.addi v2 c3_i32_172
  let c16_i32_173 : BitVec 32 := 16#32
  let v141 : BitVec 32 := Scalar.remsi v140 c16_i32_173
  let c1_i32_175 : BitVec 32 := 1#32
  let v142 : BitVec 32 := Scalar.muli v141 c1_i32_175
  let v143 : BitVec 32 := Scalar.addi c0_i32_176 v142
  v143.toNat
def k0_dev4 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_177 : BitVec 32 := 4#32
  let v144 : BitVec 32 := Scalar.addi v2 c4_i32_177
  let c16_i32_178 : BitVec 32 := 16#32
  let v145 : BitVec 32 := Scalar.remsi v144 c16_i32_178
  let c1_i32_180 : BitVec 32 := 1#32
  let v146 : BitVec 32 := Scalar.muli v145 c1_i32_180
  let v147 : BitVec 32 := Scalar.addi c0_i32_181 v146
  v147.toNat
def k0_dev5 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_182 : BitVec 32 := 5#32
  let v148 : BitVec 32 := Scalar.addi v2 c5_i32_182
  let c16_i32_183 : BitVec 32 := 16#32
  let v149 : BitVec 32 := Scalar.remsi v148 c16_i32_183
  let c1_i32_185 : BitVec 32 := 1#32
  let v150 : BitVec 32 := Scalar.muli v149 c1_i32_185
  let v151 : BitVec 32 := Scalar.addi c0_i32_186 v150
  v151.toNat
def k0_dev6 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_187 : BitVec 32 := 6#32
  let v152 : BitVec 32 := Scalar.addi v2 c6_i32_187
  let c16_i32_188 : BitVec 32 := 16#32
  let v153 : BitVec 32 := Scalar.remsi v152 c16_i32_188
  let c1_i32_190 : BitVec 32 := 1#32
  let v154 : BitVec 32 := Scalar.muli v153 c1_i32_190
  let v155 : BitVec 32 := Scalar.addi c0_i32_191 v154
  v155.toNat
def k0_dev7 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_192 : BitVec 32 := 7#32
  let v156 : BitVec 32 := Scalar.addi v2 c7_i32_192
  let c16_i32_193 : BitVec 32 := 16#32
  let v157 : BitVec 32 := Scalar.remsi v156 c16_i32_193
  let c1_i32_195 : BitVec 32 := 1#32
  let v158 : BitVec 32 := Scalar.muli v157 c1_i32_195
  let v159 : BitVec 32 := Scalar.addi c0_i32_196 v158
  v159.toNat
def k0_dev8 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_197 : BitVec 32 := 8#32
  let v160 : BitVec 32 := Scalar.addi v2 c8_i32_197
  let c16_i32_198 : BitVec 32 := 16#32
  let v161 : BitVec 32 := Scalar.remsi v160 c16_i32_198
  let c1_i32_200 : BitVec 32 := 1#32
  let v162 : BitVec 32 := Scalar.muli v161 c1_i32_200
  let v163 : BitVec 32 := Scalar.addi c0_i32_201 v162
  v163.toNat
def k0_dev9 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_202 : BitVec 32 := 9#32
  let v164 : BitVec 32 := Scalar.addi v2 c9_i32_202
  let c16_i32_203 : BitVec 32 := 16#32
  let v165 : BitVec 32 := Scalar.remsi v164 c16_i32_203
  let c1_i32_205 : BitVec 32 := 1#32
  let v166 : BitVec 32 := Scalar.muli v165 c1_i32_205
  let v167 : BitVec 32 := Scalar.addi c0_i32_206 v166
  v167.toNat
def k0_dev10 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_207 : BitVec 32 := 10#32
  let v168 : BitVec 32 := Scalar.addi v2 c10_i32_207
  let c16_i32_208 : BitVec 32 := 16#32
  let v169 : BitVec 32 := Scalar.remsi v168 c16_i32_208
  let c1_i32_210 : BitVec 32 := 1#32
  let v170 : BitVec 32 := Scalar.muli v169 c1_i32_210
  let v171 : BitVec 32 := Scalar.addi c0_i32_211 v170
  v171.toNat
def k0_dev11 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_212 : BitVec 32 := 11#32
  let v172 : BitVec 32 := Scalar.addi v2 c11_i32_212
  let c16_i32_213 : BitVec 32 := 16#32
  let v173 : BitVec 32 := Scalar.remsi v172 c16_i32_213
  let c1_i32_215 : BitVec 32 := 1#32
  let v174 : BitVec 32 := Scalar.muli v173 c1_i32_215
  let v175 : BitVec 32 := Scalar.addi c0_i32_216 v174
  v175.toNat
def k0_dev12 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_217 : BitVec 32 := 12#32
  let v176 : BitVec 32 := Scalar.addi v2 c12_i32_217
  let c16_i32_218 : BitVec 32 := 16#32
  let v177 : BitVec 32 := Scalar.remsi v176 c16_i32_218
  let c1_i32_220 : BitVec 32 := 1#32
  let v178 : BitVec 32 := Scalar.muli v177 c1_i32_220
  let v179 : BitVec 32 := Scalar.addi c0_i32_221 v178
  v179.toNat
def k0_dev13 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_222 : BitVec 32 := 13#32
  let v180 : BitVec 32 := Scalar.addi v2 c13_i32_222
  let c16_i32_223 : BitVec 32 := 16#32
  let v181 : BitVec 32 := Scalar.remsi v180 c16_i32_223
  let c1_i32_225 : BitVec 32 := 1#32
  let v182 : BitVec 32 := Scalar.muli v181 c1_i32_225
  let v183 : BitVec 32 := Scalar.addi c0_i32_226 v182
  v183.toNat
def k0_dev14 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_227 : BitVec 32 := 14#32
  let v184 : BitVec 32 := Scalar.addi v2 c14_i32_227
  let c16_i32_228 : BitVec 32 := 16#32
  let v185 : BitVec 32 := Scalar.remsi v184 c16_i32_228
  let c1_i32_230 : BitVec 32 := 1#32
  let v186 : BitVec 32 := Scalar.muli v185 c1_i32_230
  let v187 : BitVec 32 := Scalar.addi c0_i32_231 v186
  v187.toNat
def k0_dev15 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_232 : BitVec 32 := 15#32
  let v188 : BitVec 32 := Scalar.addi v2 c15_i32_232
  let c16_i32_233 : BitVec 32 := 16#32
  let v189 : BitVec 32 := Scalar.remsi v188 c16_i32_233
  let c1_i32_235 : BitVec 32 := 1#32
  let v190 : BitVec 32 := Scalar.muli v189 c1_i32_235
  let v191 : BitVec 32 := Scalar.addi c0_i32_236 v190
  v191.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v721 : Index := Scalar.indexCast v2
  let c0_590 : Index := 0#32
  let c0_591 : Index := 0#32
  ![v721.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_598 : BitVec 32 := 0#32
  let c0_i32_599 : BitVec 32 := 0#32
  ![v2.toNat, 0, 0]
def k0_dev16 (d0 : Dev nD) : Nat :=
  let c0_i32_597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_592 : BitVec 32 := 1#32
  let v725 : BitVec 32 := Scalar.addi v2 c1_i32_592
  let c16_i32_593 : BitVec 32 := 16#32
  let v726 : BitVec 32 := Scalar.remsi v725 c16_i32_593
  let c1_i32_596 : BitVec 32 := 1#32
  let v727 : BitVec 32 := Scalar.muli v726 c1_i32_596
  let v728 : BitVec 32 := Scalar.addi c0_i32_597 v727
  v728.toNat
def k0_dev17 (d0 : Dev nD) : Nat :=
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_602 : BitVec 32 := 2#32
  let v737 : BitVec 32 := Scalar.addi v2 c2_i32_602
  let c16_i32_603 : BitVec 32 := 16#32
  let v738 : BitVec 32 := Scalar.remsi v737 c16_i32_603
  let c1_i32_606 : BitVec 32 := 1#32
  let v739 : BitVec 32 := Scalar.muli v738 c1_i32_606
  let v740 : BitVec 32 := Scalar.addi c0_i32_607 v739
  v740.toNat
def k0_dev18 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_612 : BitVec 32 := 3#32
  let v749 : BitVec 32 := Scalar.addi v2 c3_i32_612
  let c16_i32_613 : BitVec 32 := 16#32
  let v750 : BitVec 32 := Scalar.remsi v749 c16_i32_613
  let c1_i32_616 : BitVec 32 := 1#32
  let v751 : BitVec 32 := Scalar.muli v750 c1_i32_616
  let v752 : BitVec 32 := Scalar.addi c0_i32_617 v751
  v752.toNat
def k0_dev19 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_622 : BitVec 32 := 4#32
  let v761 : BitVec 32 := Scalar.addi v2 c4_i32_622
  let c16_i32_623 : BitVec 32 := 16#32
  let v762 : BitVec 32 := Scalar.remsi v761 c16_i32_623
  let c1_i32_626 : BitVec 32 := 1#32
  let v763 : BitVec 32 := Scalar.muli v762 c1_i32_626
  let v764 : BitVec 32 := Scalar.addi c0_i32_627 v763
  v764.toNat
def k0_dev20 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_632 : BitVec 32 := 5#32
  let v773 : BitVec 32 := Scalar.addi v2 c5_i32_632
  let c16_i32_633 : BitVec 32 := 16#32
  let v774 : BitVec 32 := Scalar.remsi v773 c16_i32_633
  let c1_i32_636 : BitVec 32 := 1#32
  let v775 : BitVec 32 := Scalar.muli v774 c1_i32_636
  let v776 : BitVec 32 := Scalar.addi c0_i32_637 v775
  v776.toNat
def k0_dev21 (d0 : Dev nD) : Nat :=
  let c0_i32_647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_642 : BitVec 32 := 6#32
  let v785 : BitVec 32 := Scalar.addi v2 c6_i32_642
  let c16_i32_643 : BitVec 32 := 16#32
  let v786 : BitVec 32 := Scalar.remsi v785 c16_i32_643
  let c1_i32_646 : BitVec 32 := 1#32
  let v787 : BitVec 32 := Scalar.muli v786 c1_i32_646
  let v788 : BitVec 32 := Scalar.addi c0_i32_647 v787
  v788.toNat
def k0_dev22 (d0 : Dev nD) : Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_652 : BitVec 32 := 7#32
  let v797 : BitVec 32 := Scalar.addi v2 c7_i32_652
  let c16_i32_653 : BitVec 32 := 16#32
  let v798 : BitVec 32 := Scalar.remsi v797 c16_i32_653
  let c1_i32_656 : BitVec 32 := 1#32
  let v799 : BitVec 32 := Scalar.muli v798 c1_i32_656
  let v800 : BitVec 32 := Scalar.addi c0_i32_657 v799
  v800.toNat
def k0_dev23 (d0 : Dev nD) : Nat :=
  let c0_i32_667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_662 : BitVec 32 := 8#32
  let v809 : BitVec 32 := Scalar.addi v2 c8_i32_662
  let c16_i32_663 : BitVec 32 := 16#32
  let v810 : BitVec 32 := Scalar.remsi v809 c16_i32_663
  let c1_i32_666 : BitVec 32 := 1#32
  let v811 : BitVec 32 := Scalar.muli v810 c1_i32_666
  let v812 : BitVec 32 := Scalar.addi c0_i32_667 v811
  v812.toNat
def k0_dev24 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_672 : BitVec 32 := 9#32
  let v821 : BitVec 32 := Scalar.addi v2 c9_i32_672
  let c16_i32_673 : BitVec 32 := 16#32
  let v822 : BitVec 32 := Scalar.remsi v821 c16_i32_673
  let c1_i32_676 : BitVec 32 := 1#32
  let v823 : BitVec 32 := Scalar.muli v822 c1_i32_676
  let v824 : BitVec 32 := Scalar.addi c0_i32_677 v823
  v824.toNat
def k0_dev25 (d0 : Dev nD) : Nat :=
  let c0_i32_687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_682 : BitVec 32 := 10#32
  let v833 : BitVec 32 := Scalar.addi v2 c10_i32_682
  let c16_i32_683 : BitVec 32 := 16#32
  let v834 : BitVec 32 := Scalar.remsi v833 c16_i32_683
  let c1_i32_686 : BitVec 32 := 1#32
  let v835 : BitVec 32 := Scalar.muli v834 c1_i32_686
  let v836 : BitVec 32 := Scalar.addi c0_i32_687 v835
  v836.toNat
def k0_dev26 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_692 : BitVec 32 := 11#32
  let v845 : BitVec 32 := Scalar.addi v2 c11_i32_692
  let c16_i32_693 : BitVec 32 := 16#32
  let v846 : BitVec 32 := Scalar.remsi v845 c16_i32_693
  let c1_i32_696 : BitVec 32 := 1#32
  let v847 : BitVec 32 := Scalar.muli v846 c1_i32_696
  let v848 : BitVec 32 := Scalar.addi c0_i32_697 v847
  v848.toNat
def k0_dev27 (d0 : Dev nD) : Nat :=
  let c0_i32_707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_702 : BitVec 32 := 12#32
  let v857 : BitVec 32 := Scalar.addi v2 c12_i32_702
  let c16_i32_703 : BitVec 32 := 16#32
  let v858 : BitVec 32 := Scalar.remsi v857 c16_i32_703
  let c1_i32_706 : BitVec 32 := 1#32
  let v859 : BitVec 32 := Scalar.muli v858 c1_i32_706
  let v860 : BitVec 32 := Scalar.addi c0_i32_707 v859
  v860.toNat
def k0_dev28 (d0 : Dev nD) : Nat :=
  let c0_i32_717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_712 : BitVec 32 := 13#32
  let v869 : BitVec 32 := Scalar.addi v2 c13_i32_712
  let c16_i32_713 : BitVec 32 := 16#32
  let v870 : BitVec 32 := Scalar.remsi v869 c16_i32_713
  let c1_i32_716 : BitVec 32 := 1#32
  let v871 : BitVec 32 := Scalar.muli v870 c1_i32_716
  let v872 : BitVec 32 := Scalar.addi c0_i32_717 v871
  v872.toNat
def k0_dev29 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_722 : BitVec 32 := 14#32
  let v881 : BitVec 32 := Scalar.addi v2 c14_i32_722
  let c16_i32_723 : BitVec 32 := 16#32
  let v882 : BitVec 32 := Scalar.remsi v881 c16_i32_723
  let c1_i32_726 : BitVec 32 := 1#32
  let v883 : BitVec 32 := Scalar.muli v882 c1_i32_726
  let v884 : BitVec 32 := Scalar.addi c0_i32_727 v883
  v884.toNat
def k0_dev30 (d0 : Dev nD) : Nat :=
  let c0_i32_737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_732 : BitVec 32 := 15#32
  let v893 : BitVec 32 := Scalar.addi v2 c15_i32_732
  let c16_i32_733 : BitVec 32 := 16#32
  let v894 : BitVec 32 := Scalar.remsi v893 c16_i32_733
  let c1_i32_736 : BitVec 32 := 1#32
  let v895 : BitVec 32 := Scalar.muli v894 c1_i32_736
  let v896 : BitVec 32 := Scalar.addi c0_i32_737 v895
  v896.toNat
def k0_off3 (d0 : Dev nD) (c15_i32_847 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v995 : BitVec 32 := Scalar.addi v2 c15_i32_847
  let c16_i32_848 : BitVec 32 := 16#32
  let v996 : BitVec 32 := Scalar.remsi v995 c16_i32_848
  let c0_i32_853 : BitVec 32 := 0#32
  let c0_i32_854 : BitVec 32 := 0#32
  ![v996.toNat, 0, 0]
abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .i32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S32768x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.KernelIdeal.Loop.lean ====
/-
# The kernel body as loops

`KernelIdeal.cc0_body` is printed unrolled: 32 copies started one after the other, 15 signals, 16 chunks, 15 remote
copies, 30 waits. Here the same program is written with its loops (`each`, `chunks`), and `body_eq` states that the
two are equal; everything later reasons about the loops, one lemma per loop.
-/
module

public import proofs.«01_k».proof.Proof.Gen.KernelIdeal
public import proofs.«01_k».proof.Proof.Gen.KernelIdeal.Skeleton

@[expose] public section

set_option synthInstance.maxSize 4096

noncomputable section

namespace Cert.KernelIdeal.Loop

open Cert.KernelIdeal Cert.KernelIdeal.Gen

open Idealize.ShloMosaic Idealize.ShloMosaic.TcCoe Idealize.SL.Sem

variable {F : FTy → Type} [FloatOps F]

/-- Programs of the kernel's core. -/
abbrev Pr (F : FTy → Type) : Type 1 := Prog (TpuEff nD τ sig (Elt F) Λ₀ .tc) PUnit

/-- Run `f i` for every `i` of a list, then `k`. -/
def each {ι : Type} (f : ι → Pr F → Pr F) : List ι → Pr F → Pr F
  | [], k => k
  | i :: l, k => f i (each f l k)

/-! ## The buffers and semaphores -/

abbrev xH : Memref sig .tc .hbm S2048x2048 .f32 := Memref.whole main_arg0
abbrev yH : Memref sig .tc .hbm S2048x2048 .f32 := Memref.whole main_arg1
abbrev oM : Memref sig .tc .vmem S2x2048 .f32 := Memref.whole cc0_stg0_0
abbrev xB : Memref sig .tc .vmem S2048x2048 .f32 := Memref.whole cc0_scratch0
abbrev yB : Memref sig .tc .vmem S2048x2048 .f32 := Memref.whole cc0_scratch1
abbrev cM : Memref sig .tc .vmem S16x2x2048 .f32 := Memref.whole cc0_scratch2

theorem chunk_inb (j : Fin 16) : ∀ a, (![128 * j.val, 0] : Fin 2 → Nat) a + S128x2048.size a ≤ S2048x2048.size a := by
  revert j; decide
theorem load_inb (i : Fin 2) (j : Fin 16) : ∀ a, (![i.val, j.val] : Fin 2 → Nat) a + S1x1.size a ≤ S2x16.size a := by
  revert i j; decide
theorem sem_inb (k : Fin 15) : ∀ a, (![k.val] : Fin 1 → Nat) a + S1.size a ≤ S15.size a := by
  revert k; decide

/-- Rows `128 j … 128 j + 127` of a shard. -/
abbrev chunkR (j : Fin 16) : Rect S2048x2048 := Rect.unit (s := S2048x2048) ![128 * j.val, 0] S128x2048.size (chunk_inb j)
abbrev ch {sp : Space} (m : Memref sig .tc sp S2048x2048 .f32) (j : Fin 16) : Memref sig .tc sp S128x2048 .f32 :=
  m.slice (chunkR j) (fun _ => rfl)

/-- The semaphore of chunk `j`'s copy of `x` (`i = 0`) or `dy` (`i = 1`). -/
abbrev lsem (i : Fin 2) (j : Fin 16) : DmaSem sig :=
  (((cc0_scratch3 : DmaSems sig S2x16).slice (Rect.unit (s := S2x16) ![i.val, j.val] S1x1.size (load_inb i j))).squeeze S_ squeezes_S1x1_S_).sem
abbrev ssem (k : Fin 15) : DmaSem sig :=
  (((cc0_scratch4 : DmaSems sig S15).slice (Rect.unit (s := S15) ![k.val] S1.size (sem_inb k))).squeeze S_ squeezes_S1_S_).sem
abbrev rsem (k : Fin 15) : DmaSem sig :=
  (((cc0_scratch5 : DmaSems sig S15).slice (Rect.unit (s := S15) ![k.val] S1.size (sem_inb k))).squeeze S_ squeezes_S1_S_).sem
/-- The barrier semaphore of collective id 0. -/
abbrev barS : Sem sig := (SemArray.scalar (sig.barrier 0 rfl) : Sems sig S_).sem

/-- Slot `off` of the exchange buffer, as the kernel's copies name it. -/
abbrev slotAt (off : Fin 3 → Nat) (h : ∀ a, off a + S1x2x2048.size a ≤ S16x2x2048.size a) : Memref sig .tc .vmem S2x2048 .f32 :=
  (cM.slice (Rect.unit (s := S16x2x2048) off S1x2x2048.size h) (fun _ => rfl)).squeeze S2x2048 squeezes_S1x2x2048_S2x2048
theorem slot_inb (s : Dev nD) : ∀ a, (![s.val, 0, 0] : Fin 3 → Nat) a + S1x2x2048.size a ≤ S16x2x2048.size a := by
  revert s; decide
/-- Slot `s` of the exchange buffer: the one for device `s`'s partial result. -/
abbrev slot (s : Dev nD) : Memref sig .tc .vmem S2x2048 .f32 := slotAt ![s.val, 0, 0] (slot_inb s)

/-- The device `i + 1` after `d` on the ring of sixteen, and the one `i + 1` before it. -/
def up (d : Dev nD) (i : Fin 15) : Dev nD := ⟨(d.val + (i.val + 1)) % 16, Nat.mod_lt _ (by decide)⟩
def dn (d : Dev nD) (i : Fin 15) : Dev nD := ⟨(d.val + (15 - i.val)) % 16, Nat.mod_lt _ (by decide)⟩

theorem up_dn (d : Dev nD) (i : Fin 15) : up (dn d i) i = d := by revert d i; decide
theorem dn_up (d : Dev nD) (i : Fin 15) : dn (up d i) i = d := by revert d i; decide
theorem up_rev (d : Dev nD) (i : Fin 15) : up d i.rev = dn d i := by revert d i; decide
theorem dn_rev (d : Dev nD) (i : Fin 15) : dn d i.rev = up d i := by revert d i; decide
theorem up_ne (d : Dev nD) (i : Fin 15) : up d i ≠ d := by revert d i; decide
theorem up_inj (d : Dev nD) : Function.Injective (up d) := by revert d; decide
theorem exists_up (d s : Dev nD) (h : s ≠ d) : ∃ i, up d i = s := by revert d s; decide

/-- The devices the signals name, and those the copies name, as printed. -/
def sigDev (d : Dev nD) : Fin 15 → Dev nD := fun
  | 0 => ⟨k0_dev1 d, k0_dev1_lt d⟩ | 1 => ⟨k0_dev2 d, k0_dev2_lt d⟩ | 2 => ⟨k0_dev3 d, k0_dev3_lt d⟩
  | 3 => ⟨k0_dev4 d, k0_dev4_lt d⟩ | 4 => ⟨k0_dev5 d, k0_dev5_lt d⟩ | 5 => ⟨k0_dev6 d, k0_dev6_lt d⟩
  | 6 => ⟨k0_dev7 d, k0_dev7_lt d⟩ | 7 => ⟨k0_dev8 d, k0_dev8_lt d⟩ | 8 => ⟨k0_dev9 d, k0_dev9_lt d⟩
  | 9 => ⟨k0_dev10 d, k0_dev10_lt d⟩ | 10 => ⟨k0_dev11 d, k0_dev11_lt d⟩ | 11 => ⟨k0_dev12 d, k0_dev12_lt d⟩
  | 12 => ⟨k0_dev13 d, k0_dev13_lt d⟩ | 13 => ⟨k0_dev14 d, k0_dev14_lt d⟩ | 14 => ⟨k0_dev15 d, k0_dev15_lt d⟩
def sendDev (d : Dev nD) : Fin 15 → Dev nD := fun
  | 0 => ⟨k0_dev16 d, k0_dev16_lt d⟩ | 1 => ⟨k0_dev17 d, k0_dev17_lt d⟩ | 2 => ⟨k0_dev18 d, k0_dev18_lt d⟩
  | 3 => ⟨k0_dev19 d, k0_dev19_lt d⟩ | 4 => ⟨k0_dev20 d, k0_dev20_lt d⟩ | 5 => ⟨k0_dev21 d, k0_dev21_lt d⟩
  | 6 => ⟨k0_dev22 d, k0_dev22_lt d⟩ | 7 => ⟨k0_dev23 d, k0_dev23_lt d⟩ | 8 => ⟨k0_dev24 d, k0_dev24_lt d⟩
  | 9 => ⟨k0_dev25 d, k0_dev25_lt d⟩ | 10 => ⟨k0_dev26 d, k0_dev26_lt d⟩ | 11 => ⟨k0_dev27 d, k0_dev27_lt d⟩
  | 12 => ⟨k0_dev28 d, k0_dev28_lt d⟩ | 13 => ⟨k0_dev29 d, k0_dev29_lt d⟩ | 14 => ⟨k0_dev30 d, k0_dev30_lt d⟩

theorem sigDev_val (d : Dev nD) : ∀ i : Fin 15, (sigDev d i).val = (d.val + (i.val + 1)) % 16 := fun
  | 0 => k0_dev1_eq d | 1 => k0_dev2_eq d | 2 => k0_dev3_eq d | 3 => k0_dev4_eq d | 4 => k0_dev5_eq d | 5 => k0_dev6_eq d | 6 => k0_dev7_eq d | 7 => k0_dev8_eq d | 8 => k0_dev9_eq d | 9 => k0_dev10_eq d | 10 => k0_dev11_eq d | 11 => k0_dev12_eq d | 12 => k0_dev13_eq d | 13 => k0_dev14_eq d | 14 => k0_dev15_eq d
theorem sendDev_val (d : Dev nD) : ∀ i : Fin 15, (sendDev d i).val = (d.val + (i.val + 1)) % 16 := fun
  | 0 => k0_dev16_eq d | 1 => k0_dev17_eq d | 2 => k0_dev18_eq d | 3 => k0_dev19_eq d | 4 => k0_dev20_eq d | 5 => k0_dev21_eq d | 6 => k0_dev22_eq d | 7 => k0_dev23_eq d | 8 => k0_dev24_eq d | 9 => k0_dev25_eq d | 10 => k0_dev26_eq d | 11 => k0_dev27_eq d | 12 => k0_dev28_eq d | 13 => k0_dev29_eq d | 14 => k0_dev30_eq d
theorem sigDev_eq (d : Dev nD) (i : Fin 15) : sigDev d i = up d i := Fin.ext (sigDev_val d i)
theorem sendDev_eq (d : Dev nD) (i : Fin 15) : sendDev d i = up d i := Fin.ext (sendDev_val d i)

/-! ## The loops' bodies -/

/-- Start chunk `j`'s two copies into VMEM. -/
def startChunk (j : Fin 16) (k : Pr F) : Pr F :=
  .op (.enqueueDma (ch xH j) (.here (ch xB j)) (.dma (lsem 0 j)) (View.wordExact_bits rfl) (View.wordExact_bits rfl) ⟨Or.inl rfl, trivial⟩) fun _ =>
  .op (.enqueueDma (ch yH j) (.here (ch yB j)) (.dma (lsem 1 j)) (View.wordExact_bits rfl) (View.wordExact_bits rfl) ⟨Or.inl rfl, trivial⟩) fun _ => k

/-- Tell device `t` that this device is in the kernel. -/
def signalTo (t : Dev nD) (k : Pr F) : Pr F :=
  .op (.semSignal (t : Thread nD τ) barS ((1 : ℕ) : ℤ)) fun _ => k

/-- One chunk's contribution to the accumulator: the two rows (dgamma, dbeta) of the chunk `x`, `y`. -/
abbrev part (x y : FVec F S128x2048 .f32) : FVec F S2x2048 .f32 := k0_pay39 x y
abbrev step (a : FVec F S2x2048 .f32) (x y : FVec F S128x2048 .f32) : FVec F S2x2048 .f32 := addf a (part x y)

/-- Wait for chunk `j`'s copies, load the chunk, add its contribution, for every `j` of a list. -/
def chunks : List (Fin 16) → FVec F S2x2048 .f32 → (FVec F S2x2048 .f32 → Pr F) → Pr F
  | [], a, k => k a
  | j :: l, a, k =>
    .op (.waitDma2 (lsem 0 j) (ch xH j) (ch xB j) (View.wordExact_bits rfl) (View.wordExact_bits rfl)) fun _ =>
    .op (.waitDma2 (lsem 1 j) (ch yH j) (ch yB j) (View.wordExact_bits rfl) (View.wordExact_bits rfl)) fun _ =>
    .op (.load (e := .f32) xB (chunkR j).toLoadRect (View.loadsAt_vmem h_S128x2048)) fun x =>
    .op (.load (e := .f32) yB (chunkR j).toLoadRect (View.loadsAt_vmem h_S128x2048)) fun y =>
    chunks l (step a x y) k

theorem slotAt_exact (off : Fin 3 → Nat) (h) : (slotAt off h).view.WordExact := (View.wordExact_bits rfl).reshape _ _

/-- An offset of a slot that fits the exchange buffer. -/
abbrev Fits (off : Fin 3 → Nat) : Prop := ∀ a, off a + S1x2x2048.size a ≤ S16x2x2048.size a

/-- Copy the slot at `off` into the same slot of device `t`, on the `i`-th pair of semaphores. -/
def sendTo (off : Fin 3 → Nat) (h : Fits off) (t : Dev nD) (i : Fin 15) (k : Pr F) : Pr F :=
  .op (.enqueueDma (slotAt off h) (.remote (t : Thread nD τ) (slotAt off h) (.dma (ssem i))) (.dma (rsem i))
    (slotAt_exact off h) (slotAt_exact off h) ⟨⟨rfl, Or.inl rfl⟩, trivial⟩) fun _ => k

/-- Wait on the semaphore `q` for a copy from the slot at `off` to the slot at `off'`. -/
def waitOn (q : DmaSem sig) (off : Fin 3 → Nat) (h : Fits off) (off' : Fin 3 → Nat) (h' : Fits off') (k : Pr F) : Pr F :=
  .op (.waitDma2 q (slotAt off h) (slotAt off' h') (slotAt_exact off h) (slotAt_exact off' h')) fun _ => k

/-- Store the accumulator into the slot at `off` (the printed store first reads the slot), then `k`. -/
def putAt (off : Fin 3 → Nat) (h : ∀ a, off a + S1x2x2048.size a ≤ S16x2x2048.size a) (a : FVec F S2x2048 .f32) (k : Pr F) : Pr F :=
  .op (.load cM (Rect.unit (s := S16x2x2048) off S1x2x2048.size h).toLoadRect (View.loadsAt_vmem h_S1x2x2048)) fun _ =>
  .op (.store cM (Rect.unit (s := S16x2x2048) off S1x2x2048.size h) (k0_pay41 a) Finset.univ (View.stores_vmem_bits_univ h_S1x2x2048 rfl) (.inl rfl)) fun _ => k

abbrev allR : Rect S16x2x2048 := Rect.unit (s := S16x2x2048) ![0, 0, 0] S16x2x2048.size inb_S16x2x2048_S16x2x2048_0_0_0
abbrev outR : Rect S2x2048 := Rect.unit (s := S2x2048) ![0, 0] S2x2048.size inb_S2x2048_S2x2048_0_0

/-- Add the sixteen slots and store the result. -/
def total : Pr F :=
  .op (.load cM allR.toLoadRect (View.loadsAt_vmem h_S16x2x2048)) fun v =>
  .op (.load oM outR.toLoadRect (View.loadsAt_vmem h_S2x2048)) fun _ =>
  .op (.store oM outR (k0_pay1 v) Finset.univ (View.stores_vmem_bits_univ h_S2x2048 rfl) (.inl rfl)) fun _ => .ret ⟨⟩

abbrev l16 : List (Fin 16) := [0, 1, 2, 3, 4, 5, 6, 7, 8, 9, 10, 11, 12, 13, 14, 15]
abbrev l15 : List (Fin 15) := [0, 1, 2, 3, 4, 5, 6, 7, 8, 9, 10, 11, 12, 13, 14]

/-- The body on device `d`, with the slots and devices as the kernel computes them. -/
def bodyPrinted (A : List (Fin 16)) (B : List (Fin 15)) (d : Dev nD) : Pr F :=
  each startChunk A <| each (fun i => signalTo (sigDev d i)) B <| chunks A (k0_pay2 (F := F)) fun a =>
  .op (.semWait barS ((15 : ℕ) : ℤ)) fun _ => putAt (k0_off1 d) (k0_off1_inb d) a <|
  each (fun i => sendTo (k0_off2 d) (k0_off2_inb d) (sendDev d i) i) B <|
  each (fun i => waitOn (ssem i) (k0_off2 d) (k0_off2_inb d) (k0_off2 d) (k0_off2_inb d)) B <|
  each (fun i => waitOn (rsem i) (k0_off2 d) (k0_off2_inb d) (k0_off3 d (BitVec.ofNat 32 (1 + i.rev.val))) (k0_off3_inb d i.rev)) B total

set_option maxRecDepth 65536 in
set_option maxHeartbeats 4000000 in
/-- The printed body asks for its device and is `bodyPrinted` there. -/
theorem cc0_body_eq :
    cc0_body (F := F) xH (Memref.isWhole_whole _) yH (Memref.isWhole_whole _) oM (Memref.isWhole_whole _)
      xB (Memref.isWhole_whole _) yB (Memref.isWhole_whole _) cM (Memref.isWhole_whole _) cc0_scratch3 cc0_scratch4 cc0_scratch5
      = .op .deviceId fun d => bodyPrinted l16 l15 d := by
  rfl

/-- The body on device `d`, with the slots and devices by their numbers. -/
def bodyOn (A : List (Fin 16)) (B : List (Fin 15)) (d : Dev nD) : Pr F :=
  each startChunk A <| each (fun i => signalTo (up d i)) B <| chunks A (k0_pay2 (F := F)) fun a =>
  .op (.semWait barS ((15 : ℕ) : ℤ)) fun _ => putAt ![d.val, 0, 0] (slot_inb d) a <|
  each (fun i => sendTo ![d.val, 0, 0] (slot_inb d) (up d i) i) B <|
  each (fun i => waitOn (ssem i) ![d.val, 0, 0] (slot_inb d) ![d.val, 0, 0] (slot_inb d)) B <|
  each (fun i => waitOn (rsem i) ![d.val, 0, 0] (slot_inb d) ![(dn d i).val, 0, 0] (slot_inb (dn d i))) B total

theorem each_congr {ι : Type} {f g : ι → Pr F → Pr F} (h : ∀ i k, f i k = g i k) (l : List ι) {k k' : Pr F} (e : k = k') :
    each f l k = each g l k' := by
  subst e
  induction l with
  | nil => rfl
  | cons i l ih => show f i _ = g i _; rw [ih, h]

theorem sendTo_congr {o o' : Fin 3 → Nat} (e : o = o') {h h'} {t u : Dev nD} (e' : t = u) (i : Fin 15) (k : Pr F) :
    sendTo o h t i k = sendTo o' h' u i k := by subst e e'; rfl
theorem waitOn_congr {o o' p p' : Fin 3 → Nat} (e : o = o') (e' : p = p') (q : DmaSem sig) {h h' g g'} (k : Pr F) :
    waitOn q o h p g k = waitOn q o' h' p' g' k := by subst e e'; rfl
theorem putAt_congr {off off' : Fin 3 → Nat} (e : off = off') {h h'} (a : FVec F S2x2048 .f32) (k : Pr F) : putAt off h a k = putAt off' h' a k := by
  subst e; rfl

theorem from_off (d : Dev nD) (i : Fin 15) : k0_off3 d (BitVec.ofNat 32 (1 + i.rev.val)) = ![(dn d i).val, 0, 0] := by
  rw [← up_rev]; exact (k0_off3_eq d i.rev).trans (by rw [Nat.add_assoc]; rfl)

theorem bodyPrinted_eq (A : List (Fin 16)) (B : List (Fin 15)) (d : Dev nD) : bodyPrinted (F := F) A B d = bodyOn A B d := by
  unfold bodyPrinted bodyOn
  rw [each_congr (f := fun i => signalTo (sigDev d i)) (g := fun i => signalTo (up d i)) (fun i k => by rw [sigDev_eq]) B rfl]
  refine congrArg (fun g => each startChunk A (each _ B (chunks A _ g))) (funext fun a => ?_)
  refine congrArg (Prog.op _) (funext fun _ => ?_)
  rw [putAt_congr (k0_off1_eq d) (h' := slot_inb d),
    each_congr (fun i k => sendTo_congr (k0_off2_eq d) (h' := slot_inb d) (sendDev_eq d i) i k) B rfl,
    each_congr (fun i k => waitOn_congr (k0_off2_eq d) (k0_off2_eq d) (h' := slot_inb d) (g' := slot_inb d) (ssem i) k) B rfl,
    each_congr (fun i k => waitOn_congr (k0_off2_eq d) (from_off d i) (h' := slot_inb d) (g' := slot_inb (dn d i)) (rsem i) k) B rfl]

/-- The printed body asks for its device and is `bodyOn` there. -/
theorem body_eq :
    cc0_body (F := F) xH (Memref.isWhole_whole _) yH (Memref.isWhole_whole _) oM (Memref.isWhole_whole _)
      xB (Memref.isWhole_whole _) yB (Memref.isWhole_whole _) cM (Memref.isWhole_whole _) cc0_scratch3 cc0_scratch4 cc0_scratch5
      = .op .deviceId fun d => bodyOn l16 l15 d := by
  rw [cc0_body_eq]; congr 1; funext d; exact bodyPrinted_eq l16 l15 d

end Cert.KernelIdeal.Loop
-- ==== Proof.KernelIdeal.Sched.lean ====
/-
# The protocol between the sixteen devices

Every device `c` signals the barrier semaphore of the fifteen others, waits for fifteen units on its own, writes its
partial result into slot `c` of its exchange buffer, copies that slot into slot `c` of every other device's, waits for
its fifteen copies to leave and for the fifteen of the others to arrive, and adds the sixteen slots.

* The barrier cell of `c` has fifteen duties of one unit. Duty `i` is paid by the device `i + 1` before `c`, and hands
  over slot `c` of that device's exchange buffer: `c` may write there.
* The `i`-th send cell of `c` is paid by `c`'s own `i`-th copy: it gives back the share of slot `c` which the copy read.
* The `i`-th receive cell of `c` is paid by the copy from the device `i + 1` before `c`: it hands over that device's
  slot of `c`'s exchange buffer, filled with that device's partial result.

What every exchange buffer holds in the end is the same on all devices: `gath`.
-/
module

public import proofs.«01_k».proof.Proof.KernelIdeal.Loop
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.KernelIdeal.Loop

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's algebra, and the whole: the pipeline's, the protocol's, the local copies' counters. -/
abbrev UB : Type := URounds (GSem nD τ sig) (Fin 15)
abbrev UU : Type := UR sig nD τ × (UB × Counters)

abbrev MM (F : FTy → Type) : Type := MT nD τ sig Unit (Elt F) ℕ UU ℕ
local notation "𝕄" => MT nD τ sig Unit (Elt F) ℕ UU ℕ

abbrev EP : Emb (UR sig nD τ) (MT nD τ sig Unit (Elt F) ℕ UU ℕ) := embL
abbrev EX : Emb (UB × Counters) (MT nD τ sig Unit (Elt F) ℕ UU ℕ) := embR
abbrev ER : Emb UB (MT nD τ sig Unit (Elt F) ℕ UU ℕ) := Emb.inl.trans EX
abbrev EC : UEmb Counters (MT nD τ sig Unit (Elt F) ℕ UU ℕ) := countersEmb
abbrev 𝒱₀ : Variants := Variants.none

variable (m : (ℓ : Loc nD τ sig) → Buf (Elt F) ℓ) (ρ : Dev nD → PrngReg)

/-- The memory at launch: the contents `m`, every semaphore counter zero. -/
def s₀ : MemSt nD τ sig (Elt F) := ⟨m, fun _ => 0, ρ⟩

/-! ## Contents -/

/-- Device `d`'s shards of `x` and `dy`. -/
def xIn (d : Dev nD) : (main_arg0 : Ref sig .tc).ty.Contents (Elt F) := m ((d : Thread nD τ).loc main_arg0)
def yIn (d : Dev nD) : (main_arg1 : Ref sig .tc).ty.Contents (Elt F) := m ((d : Thread nD τ).loc main_arg1)

/-- Chunk `j` of a shard: its rows `128 j … 128 j + 127`. -/
def chunkOf (X : FVec F S2048x2048 .f32) (j : Fin 16) : FVec F S128x2048 .f32 := fun i => X ((chunkR j).idx i)

/-- The accumulator after the chunks of a list. -/
def accOn (X Y : FVec F S2048x2048 .f32) (l : List (Fin 16)) (a : FVec F S2x2048 .f32) : FVec F S2x2048 .f32 :=
  l.foldl (fun a j => step a (chunkOf X j) (chunkOf Y j)) a

/-- Device `d`'s partial result: its sixteen chunks added up. -/
def acc (d : Dev nD) : FVec F S2x2048 .f32 := accOn (xIn m d) (yIn m d) l16 k0_pay2

/-- A place of the exchange buffer, in its own slot. -/
def inSlot (i : S16x2x2048.Idx) : S1x2x2048.Idx := fun
  | ⟨0, _⟩ => (⟨0, Nat.one_pos⟩ : Fin 1) | ⟨1, _⟩ => i 1 | ⟨2, _⟩ => i 2

/-- What every exchange buffer holds in the end: in slot `d` device `d`'s partial result. -/
def gath : (cc0_scratch2 : Ref sig .tc).ty.Contents (Elt F) := fun i => k0_pay41 (acc m (i 0)) (inSlot i)

/-! ## The sets of places -/

abbrev slotSet (s : Dev nD) : Finset S16x2x2048.Idx := (slot s).view.set
abbrev chunkSet (j : Fin 16) : Finset S2048x2048.Idx := (chunkR j).set

theorem slotSet_eq (s : Dev nD) : slotSet s = (Rect.unit (s := S16x2x2048) ![s.val, 0, 0] S1x2x2048.size (slot_inb s)).set := by
  unfold slotSet; exact (View.set_reshape _ _).trans (View.set_slice_whole _ _)

theorem mem_slotSet {s : Dev nD} {i : S16x2x2048.Idx} : i ∈ slotSet s ↔ i 0 = s := by
  rw [slotSet_eq, Rect.mem_set_unit]
  constructor
  · intro h; have := h 0; exact Fin.ext (by have h1 := this.1; have h2 := this.2; change s.val ≤ (i 0).val at h1; change (i 0).val < s.val + 1 at h2; omega)
  · rintro rfl a
    fin_cases a
    · exact ⟨Nat.le_refl _, Nat.lt_succ_self _⟩
    · exact ⟨Nat.zero_le _, (Nat.zero_add 2).symm ▸ (i 1).isLt⟩
    · exact ⟨Nat.zero_le _, (Nat.zero_add 2048).symm ▸ (i 2).isLt⟩

theorem mem_chunkSet {j : Fin 16} {i : S2048x2048.Idx} : i ∈ chunkSet j ↔ (i 0).val / 128 = j.val := by
  unfold chunkSet; rw [Rect.mem_set_unit]
  constructor
  · intro h; have h1 := (h 0).1; have h2 := (h 0).2; change 128 * j.val ≤ (i 0).val at h1; change (i 0).val < 128 * j.val + 128 at h2; omega
  · intro h a
    fin_cases a
    · exact ⟨by change 128 * j.val ≤ (i 0).val; omega, by change (i 0).val < 128 * j.val + 128; omega⟩
    · exact ⟨Nat.zero_le _, (Nat.zero_add 2048).symm ▸ (i 1).isLt⟩

theorem slotSet_disjoint {s t : Dev nD} (h : s ≠ t) : Disjoint (slotSet s) (slotSet t) :=
  Finset.disjoint_left.mpr fun i hi hj => h ((mem_slotSet.mp hi).symm.trans (mem_slotSet.mp hj))
theorem slotSet_cover : Finset.univ.biUnion slotSet = Finset.univ :=
  Finset.eq_univ_iff_forall.mpr fun i => Finset.mem_biUnion.mpr ⟨i 0, Finset.mem_univ _, mem_slotSet.mpr rfl⟩
theorem chunkSet_disjoint {s t : Fin 16} (h : s ≠ t) : Disjoint (chunkSet s) (chunkSet t) :=
  Finset.disjoint_left.mpr fun i hi hj => h (Fin.ext ((mem_chunkSet.mp hi).symm.trans (mem_chunkSet.mp hj)))
theorem chunkSet_cover : Finset.univ.biUnion chunkSet = Finset.univ :=
  Finset.eq_univ_iff_forall.mpr fun i => Finset.mem_biUnion.mpr
    ⟨⟨(i 0).val / 128, by have := (i 0).isLt; change (i 0).val < 2048 at this; omega⟩, Finset.mem_univ _, mem_chunkSet.mpr rfl⟩

/-! ## The cells -/

/-- The protocol's semaphores: the barrier, the send ones (`false`), the receive ones (`true`). -/
abbrev CK : Type := Option (Bool × Fin 15)
abbrev csem : CK → SemLoc sig := fun
  | none => .reg barS | some (false, i) => .dma (ssem i) | some (true, i) => .dma (rsem i)
abbrev kcell (ck : Dev nD × CK) : GSem nD τ sig := ((ck.1 : Thread nD τ), csem ck.2)
abbrev barCell (c : Dev nD) : GSem nD τ sig := kcell (c, none)
abbrev sendCell (c : Dev nD) (i : Fin 15) : GSem nD τ sig := kcell (c, some (false, i))
abbrev recvCell (c : Dev nD) (i : Fin 15) : GSem nD τ sig := kcell (c, some (true, i))

theorem csem_inj : Function.Injective csem := by
  have h : ∀ a b : CK, csem a = csem b → a = b := by decide +kernel
  exact fun a b => h a b
theorem lsem_ne : ∀ (i : Fin 2) (j : Fin 16) (k : CK), csem k ≠ .dma (lsem i j) := by decide +kernel

theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- The units of one slot's copy. -/
def N : ℕ := (slot 0).view.dmaCredit
theorem slot_credit (s : Dev nD) : (slot s).view.dmaCredit = N := rfl
theorem N_pos : 0 < N := View.dmaCredit_pos _ (by decide)

/-! ## The schedule -/

/-- Slot `s` of device `c`'s exchange buffer, at share `q`, holding `f`'s. -/
def slotPts (c s : Dev nD) (q : PosShare TreeShare) (f : (cc0_scratch2 : Ref sig .tc).ty.Contents (Elt F)) : sProp 𝕄 :=
  (slot s).view.loc (c : Thread nD τ) ↦[(slot s).view.set]{q} f

omit [FloatOps F] in
instance slotPts_storable (c s : Dev nD) (q f) : BI.Storable (upEmb : UEmb _ 𝕄) (slotPts (F := F) c s q f) := by
  unfold slotPts; infer_instance

/-- The share of the own slot which the `i`-th copy reads. -/
abbrev tok (i : Fin 15) : PosShare TreeShare := Transfers.shareTok fullShare 15 i

/-- What duty `d` of cell `k` of device `c` hands over. -/
def pay (c : Dev nD) (k : CK) (d : Fin 15) : sProp 𝕄 := match k with
  | none => iprop(∃ f, slotPts (dn c d) c fullShare f)
  | some (false, i) => slotPts c c (tok i) (gath m)
  | some (true, i) => slotPts c (dn c i) fullShare (gath m)

instance pay_storable (c : Dev nD) (k : CK) (d : Fin 15) : BI.Storable (upEmb : UEmb _ 𝕄) (pay (F := F) m c k d) := by
  unfold pay; split <;> infer_instance

def sched : Rounds.Schedule (GSem nD τ sig) (Fin 15) 𝕄 where
  duties g r := if r = 0 ∧ g.1.2 = .tc then
      match Function.partialInv csem g.2 with | some none => Finset.univ | some (some _) => {0} | none => ∅
    else ∅
  unitless _ := False
  amount g _ _ := if g.2 = .reg barS then 1 else N
  payload g _ d := match Function.partialInv csem g.2 with | some k => pay m g.1.1 k d | none => iprop(emp)
  amount_pos g _ _ _ := by
    by_cases h : g.2 = .reg barS
    · rw [if_pos h]; exact Nat.one_pos
    · rw [if_neg h]; exact N_pos

instance sched_storable (g : GSem nD τ sig) (r : ℕ) (d : Fin 15) :
    BI.Storable (upEmb : UEmb _ 𝕄) ((sched (F := F) m).payload g r d) := by
  dsimp only [sched]
  split <;> infer_instance

theorem inv_csem (k : CK) : Function.partialInv csem (csem k) = some k := Function.partialInv_left csem_inj k
theorem inv_none {s : SemLoc sig} (h : ∀ k, csem k ≠ s) : Function.partialInv csem s = none := by
  cases e : Function.partialInv csem s with
  | none => rfl
  | some k => exact absurd ((Function.partialInv_of_injective csem_inj k s).mp e) (h k)

theorem payload_eq (c : Dev nD) (k : CK) (d : Fin 15) : (sched (F := F) m).payload (kcell (c, k)) 0 d = pay m c k d := by
  dsimp only [sched, kcell]; rw [inv_csem]
theorem duties_bar (c : Dev nD) : (sched (F := F) m).duties (barCell c) 0 = Finset.univ := by
  dsimp only [sched]; rw [if_pos ⟨rfl, rfl⟩, inv_csem]
theorem duties_some (c : Dev nD) (b : Bool × Fin 15) : (sched (F := F) m).duties (kcell (c, some b)) 0 = {0} := by
  dsimp only [sched]; rw [if_pos ⟨rfl, rfl⟩, inv_csem]
theorem duties_later (g : GSem nD τ sig) : ∀ r, 1 ≤ r → (sched (F := F) m).duties g r = ∅ :=
  fun r hr => by dsimp only [sched]; rw [if_neg fun h => by omega]
theorem amount_bar (c : Dev nD) (d : Fin 15) : (sched (F := F) m).amount (barCell c) 0 d = 1 := by dsimp only [sched]; exact if_pos rfl
theorem some_ne_bar (b : Bool × Fin 15) : csem (some b) ≠ .reg barS := fun h => by
  have := csem_inj (a₁ := some b) (a₂ := none) h; cases this
theorem amount_some (c : Dev nD) (b : Bool × Fin 15) (d : Fin 15) : (sched (F := F) m).amount (kcell (c, some b)) 0 d = N := by
  dsimp only [sched]; exact if_neg (some_ne_bar b)

theorem expect_bar (c : Dev nD) : (sched (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_some (c : Dev nD) (b : Bool × Fin 15) : (sched (F := F) m).expect (kcell (c, some b)) 0 = N := by
  unfold Schedule.expect Schedule.amountOf; rw [duties_some, Finset.sum_singleton, amount_some]

/-- What a barrier wait returns: every other device's slot for this one. -/
theorem rest_bar (c : Dev nD) : bigSep ((sched (F := F) m).duties (barCell c) 0 \ ∅) (fun d => (sched (F := F) m).payload (barCell c) 0 d)
    = bigSep Finset.univ fun d : Fin 15 => iprop(∃ f, slotPts (dn c d) c fullShare f) := by
  rw [Finset.sdiff_empty, duties_bar]; exact bigSep_congr fun d _ => payload_eq m c none d
theorem rest_some (c : Dev nD) (b : Bool × Fin 15) :
    bigSep ((sched (F := F) m).duties (kcell (c, some b)) 0 \ ∅) (fun d => (sched (F := F) m).payload (kcell (c, some b)) 0 d) = pay m c (some b) 0 := by
  rw [Finset.sdiff_empty, duties_some, bigSep_singleton, payload_eq]

/-! ## What a device owes, and the levels -/

/-- Owing one unit to the barrier cells of a list, and one copy to the receive cells of a list. -/
def owedBar (c : Dev nD) : List (Fin 15) → CellTallies nD τ sig Unit
  | [] => 0
  | i :: l => owedBar c l + tallyAt (barCell (up c i)) () 1
def owedRecv (c : Dev nD) : List (Fin 15) → CellTallies nD τ sig Unit
  | [] => 0
  | i :: l => owedRecv c l + tallyAt (recvCell (up c i) i) () N

/-- At launch: all. -/
def O₀ (c : Dev nD) : CellTallies nD τ sig Unit := owedRecv c l15 + owedBar c l15

def L (g : GSem nD τ sig) : Finset Unit := if g.1.2 = .tc then {()} else ∅
/-- Barrier cells at 1, receive cells at 2, everything else at 0. -/
def lv (g : GSem nD τ sig) (_ : Unit) : ℕ := match Function.partialInv csem g.2 with
  | some none => 1 | some (some (true, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv, kcell]; rw [inv_csem]
theorem lv_recv (c : Dev nD) (i : Fin 15) : lv (recvCell c i) () = 2 := by dsimp only [lv, kcell]; rw [inv_csem]
theorem lv_send (c : Dev nD) (i : Fin 15) : lv (sendCell c i) () = 0 := by dsimp only [lv, kcell]; rw [inv_csem]
theorem lv_other (c : Dev nD) {s : SemLoc sig} (h : ∀ k, csem k ≠ s) : lv ((c : Thread nD τ), s) () = 0 := by
  dsimp only [lv]; rw [inv_none h]

theorem owedBar_pos {c : Dev nD} {g : GSem nD τ sig} {u : Unit} : ∀ {l : List (Fin 15)}, 0 < owedBar c l g u → ∃ i, g = barCell (up c i)
  | [], h => absurd h (Nat.lt_irrefl 0)
  | i :: l, h => by
    unfold owedBar at h
    rw [Pi.add_apply, Finsupp.add_apply, tallyAt_apply] at h
    by_cases e : g = barCell (up c i) ∧ u = ()
    · exact ⟨i, e.1⟩
    · rw [if_neg e, Nat.add_zero] at h; exact owedBar_pos h
theorem owedRecv_pos {c : Dev nD} {g : GSem nD τ sig} {u : Unit} : ∀ {l : List (Fin 15)}, 0 < owedRecv c l g u → ∃ i, g = recvCell (up c i) i
  | [], h => absurd h (Nat.lt_irrefl 0)
  | i :: l, h => by
    unfold owedRecv at h
    rw [Pi.add_apply, Finsupp.add_apply, tallyAt_apply] at h
    by_cases e : g = recvCell (up c i) i ∧ u = ()
    · exact ⟨i, e.1⟩
    · rw [if_neg e, Nat.add_zero] at h; exact owedRecv_pos h

/-- A wait on a cell of level 0 is allowed whatever of the launch's duties is still owed. -/
theorem mayWait_zero (c : Dev nD) {s : SemLoc sig} (hs : lv ((c : Thread nD τ), s) () = 0) (l l' : List (Fin 15)) :
    (levAts L lv : sProp 𝕄) ⊢ MayWait (c : Thread nD τ) s () (owedRecv c l + owedBar c l') := by
  have hp : ∀ {g : GSem nD τ sig} {u : Unit}, 0 < (owedRecv c l + owedBar c l') g u →
      (∃ i, g = recvCell (up c i) i) ∨ ∃ i, g = barCell (up c i) := fun {g u} h => by
    rw [Pi.add_apply, Finsupp.add_apply] at h
    rcases Nat.eq_zero_or_pos (owedRecv c l g u) with e | e
    · rw [e, Nat.zero_add] at h; exact Or.inr (owedBar_pos h)
    · exact Or.inl (owedRecv_pos e)
  refine MayOwe.of_cut (L := L) (lev := lv) 0 (fun p hp => by rw [Finset.mem_singleton.mp hp, L_tc]; exact Finset.mem_singleton_self _)
      (fun g u hg => by rcases hp hg with ⟨i, rfl⟩ | ⟨i, rfl⟩ <;> exact Finset.mem_singleton_self _)
      (fun p hp => by rw [Finset.mem_singleton.mp hp]; exact hs.le)
      (fun g u hg => by
        rcases hp hg with ⟨i, rfl⟩ | ⟨i, rfl⟩
        · exact (lv_recv _ _).symm ▸ Nat.two_pos
        · exact (lv_bar _).symm ▸ Nat.one_pos)

/-- At its barrier wait a device owes only copies. -/
theorem mayWait_bar (c : Dev nD) (l : List (Fin 15)) :
    (levAts L lv : sProp 𝕄) ⊢ MayWait (c : Thread nD τ) (.reg barS) () (owedRecv c l) :=
  MayOwe.of_cut (L := L) (lev := lv) 1 (fun p hp => by rw [Finset.mem_singleton.mp hp, L_tc]; exact Finset.mem_singleton_self _)
    (fun g u hg => by obtain ⟨i, rfl⟩ := owedRecv_pos hg; exact Finset.mem_singleton_self _)
    (fun p hp => by rw [Finset.mem_singleton.mp hp]; exact (lv_bar c).le)
    (fun g u hg => by obtain ⟨i, rfl⟩ := owedRecv_pos hg; rw [lv_recv]; decide)

end Cert.KernelIdeal.Loop

end
-- ==== Proof.KernelIdeal.Rules.lean ====
/-
# One lemma per loop of the body

`res Φ l` holds `Φ i` for every `i` of a list; `wp_each` runs a loop from what each of its steps needs to what each of
them leaves. Then one lemma for each of the body's loops: the local copies started, the signals, the chunks waited for
and added, the remote copies, the two kinds of waits; and the stores.
-/
module

public import proofs.«01_k».proof.Proof.KernelIdeal.Sched

@[expose] public section

noncomputable section

namespace Cert.KernelIdeal.Loop

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Loops -/

/-- `Φ i` for every `i` of the list. -/
def res {ι : Type} (Φ : ι → sProp 𝕄) : List ι → sProp 𝕄
  | [] => iprop(emp)
  | i :: l => iprop(Φ i ∗ res Φ l)

omit [FloatOps F] in
theorem res_nodup {ι : Type} [DecidableEq ι] (Φ : ι → sProp 𝕄) : ∀ l : List ι, l.Nodup → bigSep l.toFinset Φ = res Φ l
  | [], _ => by rw [List.toFinset_nil]; exact bigSep_empty
  | i :: l, h => by
    rw [List.toFinset_cons, bigSep_insert (by rw [List.mem_toFinset]; exact (List.nodup_cons.mp h).1), res_nodup Φ l (List.nodup_cons.mp h).2]
    rfl
omit [FloatOps F] in
theorem res15 (Φ : Fin 15 → sProp 𝕄) : res Φ l15 = bigSep Finset.univ Φ := by
  rw [← res_nodup Φ l15 (by decide)]; exact congrArg (bigSep · Φ) (by decide)
omit [FloatOps F] in
theorem res16 (Φ : Fin 16 → sProp 𝕄) : res Φ l16 = bigSep Finset.univ Φ := by
  rw [← res_nodup Φ l16 (by decide)]; exact congrArg (bigSep · Φ) (by decide)
omit [FloatOps F] in
theorem res_sep {ι : Type} (Φ Ψ : ι → sProp 𝕄) : ∀ l, res (fun i => iprop(Φ i ∗ Ψ i)) l ⊣⊢ iprop(res Φ l ∗ res Ψ l)
  | [] => ⟨by unfold res; iintro -; isplitl <;> iempintro, by unfold res; iintro -; iempintro⟩
  | i :: l => ⟨by
      unfold res; iintro ⟨⟨H1, H2⟩, H⟩
      ihave H' := (res_sep Φ Ψ l).1 $$ H
      icases H' with ⟨H3, H4⟩
      isplitl [H1 H3]
      · isplitl [H1] <;> iassumption
      · isplitl [H2] <;> iassumption, by
      unfold res; iintro ⟨⟨H1, H3⟩, H2, H4⟩
      isplitl [H1 H2]
      · isplitl [H1] <;> iassumption
      iapply (res_sep Φ Ψ l).2
      isplitl [H3] <;> iassumption⟩

/-- The kernel's core of device `c` runs `p` and ends in `Q`. -/
abbrev WP (c : Dev nD) (p : Pr F) (Q : PUnit → sProp 𝕄) : sProp 𝕄 :=
  wp frame (wpE (defs₀ (F := F)) 𝒱₀ (c : Thread nD τ) none) Set.univ p Q

theorem wp_each {ι : Type} (c : Dev nD) {Q : PUnit → sProp 𝕄} (f : ι → Pr F → Pr F) (P : sProp 𝕄) [BI.Persistent P]
    (Pre Post : ι → sProp 𝕄) (T : List ι → sProp 𝕄)
    (h : ∀ i l (k : Pr F), iprop(P ∗ Pre i ∗ T (i :: l)) ⊢ iprop((iprop(Post i ∗ T l) -∗ WP c k Q) -∗ WP c (f i k) Q)) :
    ∀ l (k : Pr F), iprop(P ∗ res Pre l ∗ T l) ⊢ iprop((iprop(res Post l ∗ T []) -∗ WP c k Q) -∗ WP c (each f l k) Q)
  | [], k => by
    unfold res each
    iintro ⟨-, -, HT⟩ Hk
    iapply Hk
    isplitr; · iempintro
    iexact HT
  | i :: l, k => by
    unfold res each
    iintro ⟨#HP, ⟨Hi, Hl⟩, HT⟩ Hk
    iapply (h i l (each f l k)) $$ [Hi HT]
    · isplitr; · iexact HP
      isplitl [Hi] <;> iassumption
    iintro ⟨Hpost, HT⟩
    iapply (wp_each c f P Pre Post T h l k) $$ [Hl HT]
    · isplitr; · iexact HP
      isplitl [Hl] <;> iassumption
    iintro ⟨Hposts, HT⟩
    iapply Hk
    isplitl [Hpost Hposts]
    · isplitl [Hpost] <;> iassumption
    iexact HT

/-! ## Chunks of the local copies -/

/-- Chunk `j` of a shard's buffer, at the full share, holding `f`'s. -/
def cPts {sp : Space} (r : Memref sig .tc sp S2048x2048 .f32) (c : Dev nD) (j : Fin 16) (f : Buf (Elt F) ((ch r j).view.loc (c : Thread nD τ))) : sProp 𝕄 :=
  (ch r j).view.loc (c : Thread nD τ) ↦[(ch r j).view.set]{fullShare} f

/-- The units of one chunk's copy. -/
def NL : ℕ := (ch xB 0).view.dmaCredit
theorem NL_pos : 0 < NL := View.dmaCredit_pos _ (by decide)

abbrev flight (src : Memref sig .tc .hbm S2048x2048 .f32) (dst : Memref sig .tc .vmem S2048x2048 .f32) (i : Fin 2) (c : Dev nD) (j : Fin 16)
    (f : Buf (Elt F) ((ch src j).view.loc (c : Thread nD τ))) (g : Buf (Elt F) ((ch dst j).view.loc (c : Thread nD τ))) : sProp 𝕄 :=
  Transfers.Flight EC (c : Thread nD τ) (.dma (lsem i j)) () NL iprop(cPts dst c j g ∗ cPts src c j f)

abbrev lCell (c : Dev nD) (i : Fin 2) (j : Fin 16) : GSem nD τ sig := ((c : Thread nD τ), .dma (lsem i j))

/-- What starting chunk `j`'s copies needs, what it leaves, and what the waits leave. -/
def startPre (c : Dev nD) (j : Fin 16) : sProp 𝕄 :=
  iprop(cPts xH c j (xIn m c) ∗ cPts yH c j (yIn m c) ∗ (∃ f, cPts xB c j f) ∗ (∃ f, cPts yB c j f) ∗ semVal (lCell c 0 j) 0 ∗ semVal (lCell c 1 j) 0)
def started (c : Dev nD) (j : Fin 16) : sProp 𝕄 := iprop(flight xH xB 0 c j (xIn m c) (xIn m c) ∗ flight yH yB 1 c j (yIn m c) (yIn m c))
def loaded (c : Dev nD) (j : Fin 16) : sProp 𝕄 :=
  iprop(cPts xH c j (xIn m c) ∗ cPts yH c j (yIn m c) ∗ cPts xB c j (xIn m c) ∗ cPts yB c j (yIn m c) ∗ semVal (lCell c 0 j) 0 ∗ semVal (lCell c 1 j) 0)

omit [FloatOps F] in
theorem landed_x (c : Dev nD) (j : Fin 16) (f : Buf (Elt F) ((ch xH j).view.loc (c : Thread nD τ))) (g : Buf (Elt F) ((ch xB j).view.loc (c : Thread nD τ))) :
    (((ch xB j).view.loc (c : Thread nD τ) ↦[(ch xB j).view.set]{fullShare} (ch xB j).view.write (Elt F) g ((ch xH j).view.read (Elt F) f) Finset.univ : sProp 𝕄))
      = cPts xB c j f := by
  unfold cPts
  refine pointsTo_congr fun i hi => ?_
  obtain ⟨y, -, rfl⟩ := Finset.mem_map.mp hi
  exact View.write_emb_of_mem _ _ (Finset.mem_univ y)
omit [FloatOps F] in
theorem landed_y (c : Dev nD) (j : Fin 16) (f : Buf (Elt F) ((ch yH j).view.loc (c : Thread nD τ))) (g : Buf (Elt F) ((ch yB j).view.loc (c : Thread nD τ))) :
    (((ch yB j).view.loc (c : Thread nD τ) ↦[(ch yB j).view.set]{fullShare} (ch yB j).view.write (Elt F) g ((ch yH j).view.read (Elt F) f) Finset.univ : sProp 𝕄))
      = cPts yB c j f := by
  unfold cPts
  refine pointsTo_congr fun i hi => ?_
  obtain ⟨y, -, rfl⟩ := Finset.mem_map.mp hi
  exact View.write_emb_of_mem _ _ (Finset.mem_univ y)

theorem wp_start (c : Dev nD) {Q : PUnit → sProp 𝕄} (j : Fin 16) (k : Pr F) :
    iprop(emp ∗ startPre m c j ∗ emp) ⊢ iprop((iprop(started m c j ∗ emp) -∗ WP c k Q) -∗ WP c (startChunk j k) Q) := by
  unfold startPre startChunk started cPts
  iintro ⟨-, ⟨Hx, Hy, ⟨%f, HX⟩, ⟨%g, HY⟩, Hv0, Hv1⟩, -⟩ Hk
  iapply (Transfers.wp_dmaLocal EC 𝒱₀ (c : Thread nD τ) none () NL rfl NL_pos (Finset.Subset.refl _)) $$ [Hx HX Hv0]
  · isplitl [Hx]; · iexact Hx
    isplitl [HX] <;> iassumption
  iintro HF
  iapply (Transfers.wp_dmaLocal EC 𝒱₀ (c : Thread nD τ) none () NL rfl NL_pos (Finset.Subset.refl _)) $$ [Hy HY Hv1]
  · isplitl [Hy]; · iexact Hy
    isplitl [HY] <;> iassumption
  iintro HG
  iapply Hk
  isplitl
  · isplitl [HF]
    · iapply (Transfers.Flight_mono (EC := EC) (c := (c : Thread nD τ)) (sep_mono_left (Entails.of_eq (landed_x c j _ f)))) $$ HF
    · iapply (Transfers.Flight_mono (EC := EC) (c := (c : Thread nD τ)) (sep_mono_left (Entails.of_eq (landed_y c j _ g)))) $$ HG
  iempintro

/-! ## The cells' records -/

/-- Every protocol cell's invariant, at the names `K`, and that it has reached round 0. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)
instance records_persistent (K : Dev nD × CK → ℕ) : BI.Persistent (records (F := F) m K) := by unfold records; infer_instance

theorem inv_at (K : Dev nD × CK → ℕ) (ck : Dev nD × CK) : records (F := F) m K ⊢ cellInv ER (sched m) (K ck) (kcell ck) := by
  have h : (bigSep Finset.univ fun ck : Dev nD × CK => (cellInv ER (sched (F := F) m) (K ck) (kcell ck) : sProp 𝕄))
      ⊢ cellInv ER (sched m) (K ck) (kcell ck) := bigSep_elim (Finset.mem_univ ck)
  unfold records; iintro ⟨H, -⟩; iapply h $$ H
theorem reached_at (K : Dev nD × CK → ℕ) (ck : Dev nD × CK) : records (F := F) m K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records; iintro ⟨-, H⟩; iapply h $$ H

/-- What is owed, at some record of the waits done. -/
def owing (c : Dev nD) (O : CellTallies nD τ sig Unit) : sProp 𝕄 := iprop(∃ W, owes (c : Thread nD τ) O W)

/-! ## The signals -/

def sigPre (c : Dev nD) (i : Fin 15) : sProp 𝕄 := iprop((∃ f, slotPts c (up c i) fullShare f) ∗ dutyTok ER (barCell (up c i)) 0 i)

theorem wp_signals (K : Dev nD × CK → ℕ) (c : Dev nD) {Q : PUnit → sProp 𝕄} (O : CellTallies nD τ sig Unit) (i : Fin 15) (l : List (Fin 15)) (k : Pr F) :
    iprop(records m K ∗ sigPre c i ∗ owing c (O + owedBar c (i :: l)))
      ⊢ iprop((iprop(emp ∗ owing c (O + owedBar c l)) -∗ WP c k Q) -∗ WP c (signalTo (up c i) k) Q) := by
  unfold sigPre signalTo owing
  iintro ⟨#HR, ⟨Hs, Ht⟩, ⟨%W, HO⟩⟩ Hk
  iapply (Rounds.wp_signal 𝒱₀ ER (sched m) (c : Thread nD τ) none (dst := (up c i : Thread nD τ)) (κ := K (up c i, none))
      (d := i) (by rw [duties_bar]; exact Finset.mem_univ _) ((amount_bar m (up c i) i).trans (by decide)) () (O + owedBar c l) (add_assoc _ _ _).symm)
    $$ [HO Hs Ht]
  · isplitr; · iapply (inv_at m K (up c i, none)); iexact HR
    isplitl [HO]; · iexact HO
    isplitl [Ht]; · iexact Ht
    isplitl [Hs]
    · rw [show (sched (F := F) m).payload ((up c i : Thread nD τ), SemLoc.reg barS) 0 i = iprop(∃ f, slotPts (dn (up c i) i) (up c i) fullShare f) from payload_eq m (up c i) none i, dn_up]
      iexact Hs
    · iapply (reached_at m K (up c i, none)); iexact HR
  iintro HO
  iapply Hk
  isplitr; · iempintro
  iexists W; iexact HO

/-! ## The chunks -/

theorem wp_chunks (c : Dev nD) {Q : PUnit → sProp 𝕄} (l' l'' : List (Fin 15)) : ∀ (l : List (Fin 16)) (a : FVec F S2x2048 .f32) (k : FVec F S2x2048 .f32 → Pr F),
    iprop(levAts L lv ∗ res (started m c) l ∗ owing c (owedRecv c l' + owedBar c l''))
      ⊢ iprop((iprop(res (loaded m c) l ∗ owing c (owedRecv c l' + owedBar c l'')) -∗ WP c (k (accOn (xIn m c) (yIn m c) l a)) Q)
          -∗ WP c (chunks l a k) Q)
  | [], a, k => by
    unfold res chunks
    iintro ⟨-, -, HO⟩ Hk
    iapply Hk
    isplitr; · iempintro
    iexact HO
  | j :: l, a, k => by
    unfold res chunks started owing
    iintro ⟨#Hlev, ⟨⟨HF, HG⟩, Hl⟩, ⟨%W, HO⟩⟩ Hk
    iapply (Transfers.wp_waitLocalO EC 𝒱₀ (c : Thread nD τ) none () (show (ch xB j).view.dmaCredit = NL from rfl)) $$ [HF HO]
    · isplitl [HF]; · iexact HF
      isplitl [HO]; · iexact HO
      iapply (mayWait_zero c (lv_other c (lsem_ne 0 j)) l' l''); iexact Hlev
    iintro ⟨⟨HX, Hx⟩, Hv0, HO⟩
    iapply (Transfers.wp_waitLocalO EC 𝒱₀ (c : Thread nD τ) none () (show (ch yB j).view.dmaCredit = NL from rfl)) $$ [HG HO]
    · isplitl [HG]; · iexact HG
      isplitl [HO]; · iexact HO
      iapply (mayWait_zero c (lv_other c (lsem_ne 1 j)) l' l''); iexact Hlev
    iintro ⟨⟨HY, Hy⟩, Hv1, HO⟩
    unfold cPts
    iapply (wp_load 𝒱₀ (c : Thread nD τ) none Set.univ (m := xB) (S := (ch xB j).view.set)
      (View.set_slice _ _).symm.le) $$ HX; iintro HX
    iapply (wp_load 𝒱₀ (c : Thread nD τ) none Set.univ (m := yB) (S := (ch yB j).view.set)
      (View.set_slice _ _).symm.le) $$ HY; iintro HY
    iapply (wp_chunks c l' l'' l (step a (chunkOf (xIn m c) j) (chunkOf (yIn m c) j)) k) $$ [Hl HO]
    · isplitr; · iexact Hlev
      isplitl [Hl]; · iexact Hl
      unfold owing; iexists _; iexact HO
    iintro ⟨Hl, HO⟩
    iapply Hk
    isplitr [HO]
    · isplitr [Hl]
      · unfold loaded cPts
        isplitl [Hx]; · iexact Hx
        isplitl [Hy]; · iexact Hy
        isplitl [HX]; · iexact HX
        isplitl [HY]; · iexact HY
        isplitl [Hv0]; · iexact Hv0
        iexact Hv1
      iexact Hl
    unfold owing; iexact HO

/-! ## The barrier's wait -/

theorem wp_barrier (K : Dev nD × CK → ℕ) (c : Dev nD) {Q : PUnit → sProp 𝕄} (l : List (Fin 15)) (k : PUnit → Pr F) :
    iprop(records m K ∗ levAts L lv ∗ cred (tallyAt (barCell c) () 15) ∗ atPos ER (barCell c) 0 ∅ 0 ∗ owing c (owedRecv c l))
      ⊢ iprop((iprop((bigSep Finset.univ fun i : Fin 15 => iprop(∃ f, slotPts (dn c i) c fullShare f)) ∗ atPos ER (barCell c) 1 ∅ 0 ∗ owing c (owedRecv c l))
            -∗ WP c (k ⟨⟩) Q)
          -∗ WP c (.op (.semWait barS ((15 : ℕ) : ℤ)) k) Q) := by
  unfold owing
  iintro ⟨#HR, #Hlev, HC, HA, ⟨%W, HO⟩⟩ Hk
  iapply (Rounds.wp_wait_rest_token 𝒱₀ ER (sched m) (c : Thread nD τ) none (κ := K (c, none))
      (wpE_semWait_eq 𝒱₀ (c : Thread nD τ) none Set.univ) (Set.mem_univ _) () (O := owedRecv c l) (W := W) (R := 0) (m := 0) (T := ∅)
      (by rw [expect_bar])) $$ [HC HO HA]
  · isplitr; · iapply (inv_at m K (c, none)); iexact HR
    isplitl [HC]; · iexact HC
    isplitl [HO]; · iexact HO
    isplitr; · iapply (mayWait_bar c l); iexact Hlev
    iexact HA
  iintro ⟨HO, HA, -, Hp⟩
  ihave Hp := (Entails.of_eq (rest_bar m c)) $$ Hp
  iapply Hk
  isplitl [Hp]; · iexact Hp
  isplitl [HA]; · iexact HA
  iexists _; iexact HO

end Cert.KernelIdeal.Loop

end
-- ==== Proof.KernelIdeal.Exchange.lean ====
/-
# The exchange: the partial result stored, copied to every other device, waited for and added

The lemmas for the second half of the body: the store into the own slot, the fifteen copies, the waits for them to
leave, the waits for the others' to arrive, the sum; and the closing of the protocol's cells.
-/
module

public import proofs.«01_k».proof.Proof.KernelIdeal.Rules

@[expose] public section

noncomputable section

namespace Cert.KernelIdeal.Loop

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The own slot -/

abbrev slotR (s : Dev nD) : Rect S16x2x2048 := Rect.unit (s := S16x2x2048) ![s.val, 0, 0] S1x2x2048.size (slot_inb s)

theorem inSlot_idx (s : Dev nD) (y : S1x2x2048.Idx) : inSlot ((slotR s).idx y) = y := by
  funext a
  fin_cases a
  · exact Fin.ext (by have := (y 0).isLt; change (y 0).val < 1 at this; change 0 = (y 0).val; omega)
  · exact Fin.ext (by change 0 + 1 * (y 1).val = (y 1).val; omega)
  · exact Fin.ext (by change 0 + 1 * (y 2).val = (y 2).val; omega)
theorem idx_dev (s : Dev nD) (y : S1x2x2048.Idx) : (slotR s).idx y 0 = s :=
  Fin.ext (by have := (y 0).isLt; change (y 0).val < 1 at this; change s.val + 1 * (y 0).val = s.val; omega)

theorem gath_idx (s : Dev nD) (y : S1x2x2048.Idx) : gath m ((slotR s).idx y) = k0_pay41 (acc m s) y := by
  unfold gath; rw [idx_dev, inSlot_idx]

/-- The store leaves the own slot as every exchange buffer holds it in the end. -/
theorem stored (c : Dev nD) (f : (cc0_scratch2 : Ref sig .tc).ty.Contents (Elt F)) :
    ((cM.access (slotR c)).loc (c : Thread nD τ) ↦[slotSet c]{fullShare} (cM.access (slotR c)).write (Elt F) f (k0_pay41 (acc m c)) Finset.univ : sProp 𝕄)
      = slotPts c c fullShare (gath m) := by
  unfold slotPts
  refine pointsTo_congr fun i hi => ?_
  rw [slotSet_eq] at hi
  obtain ⟨y, -, rfl⟩ := Finset.mem_map.mp ((View.set_slice_whole (cc0_scratch2 : Ref sig .tc) (slotR c)).symm ▸ hi)
  exact (View.write_emb_of_mem (v := cM.access (slotR c)) _ _ (Finset.mem_univ y)).trans (gath_idx m c y).symm

omit [FloatOps F] in
theorem slotPts_eq (c s : Dev nD) (q : PosShare TreeShare) (f : (cc0_scratch2 : Ref sig .tc).ty.Contents (Elt F)) :
    slotPts c s q f = (cM.view.loc (c : Thread nD τ) ↦[slotSet s]{q} f : sProp 𝕄) := rfl

theorem load_sub (c : Dev nD) : cM.view.setOn (slotR c).set ⊆ slotSet c := by
  rw [slotSet_eq]; exact ((View.set_slice cM.view (slotR c)).symm.trans (View.set_slice_whole (cc0_scratch2 : Ref sig .tc) (slotR c))).le
theorem store_sub (c : Dev nD) : (cM.access (slotR c)).setOn Finset.univ ⊆ slotSet c := by
  rw [slotSet_eq]; exact (View.set_slice_whole (cc0_scratch2 : Ref sig .tc) (slotR c)).le

theorem wp_put (c : Dev nD) {Q : PUnit → sProp 𝕄} (f : (cc0_scratch2 : Ref sig .tc).ty.Contents (Elt F)) (k : Pr F) :
    slotPts c c fullShare f
      ⊢ iprop((slotPts c c fullShare (gath m) -∗ WP c k Q) -∗ WP c (putAt ![c.val, 0, 0] (slot_inb c) (acc m c) k) Q) := by
  unfold putAt
  iintro Hs Hk
  ihave Hs := (Entails.of_eq (slotPts_eq c c fullShare f)) $$ Hs
  iapply (wp_load 𝒱₀ (c : Thread nD τ) none Set.univ (m := cM) (S := slotSet c) (load_sub c)) $$ Hs; iintro Hs
  iapply (wp_store 𝒱₀ (c : Thread nD τ) none Set.univ (m := cM) (r := slotR c) (Mk := Finset.univ) (S := slotSet c) (store_sub c)) $$ Hs; iintro Hs
  iapply Hk
  iapply (Entails.of_eq (stored m c f)) $$ Hs

/-! ## The copies -/

def sendPre (c : Dev nD) (i : Fin 15) : sProp 𝕄 :=
  iprop(slotPts c c (tok i) (gath m) ∗ (∃ f, slotPts (up c i) c fullShare f) ∗ dutyTok ER (sendCell c i) 0 0 ∗ dutyTok ER (recvCell (up c i) i) 0 0)

/-- What a copy lands is what the slot holds in the end. -/
theorem arrived (c t : Dev nD) (f : (cc0_scratch2 : Ref sig .tc).ty.Contents (Elt F)) :
    ((slot c).view.loc (t : Thread nD τ) ↦[(slot c).view.set]{fullShare} (slot c).view.write (Elt F) f ((slot c).view.read (Elt F) (gath m)) Finset.univ : sProp 𝕄)
      = slotPts t c fullShare (gath m) := by
  unfold slotPts
  refine pointsTo_congr fun i hi => ?_
  obtain ⟨y, -, rfl⟩ := Finset.mem_map.mp hi
  exact View.write_emb_of_mem _ _ (Finset.mem_univ y)

theorem wp_send_at (K : Dev nD × CK → ℕ) (c : Dev nD) {Q : PUnit → sProp 𝕄} (i : Fin 15) (O : CellTallies nD τ sig Unit) (W : Waits sig Unit)
    (f : (cc0_scratch2 : Ref sig .tc).ty.Contents (Elt F)) (k : Pr F) :
    iprop(cellInv ER (sched m) (K (c, some (false, i))) (sendCell c i) ∗ cellInv ER (sched m) (K (up c i, some (true, i))) (recvCell (up c i) i)
        ∗ slotPts c c (tok i) (gath m) ∗ slotPts (up c i) c fullShare f
        ∗ owes (c : Thread nD τ) (O + tallyAt (recvCell (up c i) i) () N) W
        ∗ dutyTok ER (sendCell c i) 0 0 ∗ reached ER (sendCell c i) 0
        ∗ dutyTok ER (recvCell (up c i) i) 0 0 ∗ reached ER (recvCell (up c i) i) 0)
      ⊢ iprop((iprop(cred (tallyAt (sendCell c i) () N) ∗ owes (c : Thread nD τ) O W) -∗ WP c k Q) -∗ WP c (sendTo ![c.val, 0, 0] (slot_inb c) (up c i) i k) Q) := by
  have h1 : (0 : Fin 15) ∈ (sched (F := F) m).duties (sendCell c i) 0 := by rw [duties_some]; exact Finset.mem_singleton_self _
  have h2 : (0 : Fin 15) ∈ (sched (F := F) m).duties (recvCell (up c i) i) 0 := by rw [duties_some]; exact Finset.mem_singleton_self _
  have h3 : ((slot c).view.loc (c : Thread nD τ) ↦[(slot c).view.set]{tok i} gath m : sProp 𝕄) ⊢ (sched m).payload (sendCell c i) 0 0 :=
    Entails.of_eq (payload_eq m c (some (false, i)) 0).symm
  have h4 : ((slot c).view.loc (up c i : Thread nD τ) ↦[(slot c).view.set]{fullShare} (slot c).view.write (Elt F) f ((slot c).view.read (Elt F) (gath m)) Finset.univ : sProp 𝕄)
      ⊢ (sched m).payload (recvCell (up c i) i) 0 0 := by
    exact Entails.of_eq ((arrived m c (up c i) f).trans ((congrArg (fun s => slotPts (up c i) s fullShare (gath m)) (dn_up c i).symm).trans
      (payload_eq m (up c i) (some (true, i)) 0).symm))
  have hN : (slot c).view.amount (SemLoc.dma (rsem i)) = N := rfl
  have hr : τ.routes (c : Thread nD τ) (up c i : Thread nD τ) = true := by routes
  unfold sendTo slotPts
  exact Rounds.wp_send_pointsTo 𝒱₀ ER (sched m) (c : Thread nD τ) none (c' := (up c i : Thread nD τ)) (src := slot c) (dst := slot c)
    (sS := .dma (ssem i)) (sem := .dma (rsem i)) (q := tok i) (fs := gath m)
    (hsc := rfl) (hsrc := slotAt_exact _ (slot_inb c)) (hdst := slotAt_exact _ (slot_inb c)) (hsem := ⟨⟨rfl, Or.inl rfl⟩, trivial⟩) (k := fun _ => k) (Q := Q) (Es := Set.univ) (κ₁ := K (c, some (false, i))) (κ₂ := K (up c i, some (true, i)))
    (r₁ := 0) (r₂ := 0) (d₁ := 0) (d₂ := 0) (fd := f) h1 h2
    () () N hN (amount_some m c (false, i) 0) (amount_some m (up c i) (true, i) 0) O rfl (W := W) h3 h4 hr

theorem wp_sends (K : Dev nD × CK → ℕ) (c : Dev nD) {Q : PUnit → sProp 𝕄} (i : Fin 15) (l : List (Fin 15)) (k : Pr F) :
    iprop(records m K ∗ sendPre m c i ∗ owing c (owedRecv c (i :: l)))
      ⊢ iprop((iprop(cred (tallyAt (sendCell c i) () N) ∗ owing c (owedRecv c l)) -∗ WP c k Q) -∗ WP c (sendTo ![c.val, 0, 0] (slot_inb c) (up c i) i k) Q) := by
  unfold sendPre owing
  iintro ⟨#HR, ⟨Hs, ⟨%f, Hd⟩, Ht, Ht'⟩, ⟨%W, HO⟩⟩ Hk
  iapply (wp_send_at m K c i (owedRecv c l) W f k) $$ [Hs Hd HO Ht Ht']
  · isplitr; · iapply (inv_at m K (c, some (false, i))); iexact HR
    isplitr; · iapply (inv_at m K (up c i, some (true, i))); iexact HR
    isplitl [Hs]; · iexact Hs
    isplitl [Hd]; · iexact Hd
    isplitl [HO]; · iexact HO
    isplitl [Ht]; · iexact Ht
    isplitr; · iapply (reached_at m K (c, some (false, i))); iexact HR
    isplitl [Ht']; · iexact Ht'
    iapply (reached_at m K (up c i, some (true, i))); iexact HR
  iintro ⟨HC, HO⟩
  iapply Hk
  isplitl [HC]; · iexact HC
  iexists W; iexact HO

/-! ## The waits -/

/-- A wait for a copy's units on the cell `b` of device `c`, nothing owed: the payload. -/
theorem wp_arrive (K : Dev nD × CK → ℕ) (c : Dev nD) {Q : PUnit → sProp 𝕄} (b : Bool × Fin 15) (q : DmaSem sig) (hq : csem (some b) = .dma q) (s t : Dev nD) (k : Pr F) :
    iprop(records m K ∗ (cred (tallyAt (kcell (c, some b)) () N) ∗ atPos ER (kcell (c, some b)) 0 ∅ 0) ∗ owing c 0)
      ⊢ iprop((iprop((pay m c (some b) 0 ∗ atPos ER (kcell (c, some b)) 1 ∅ 0) ∗ owing c 0) -∗ WP c k Q)
          -∗ WP c (waitOn q ![s.val, 0, 0] (slot_inb s) ![t.val, 0, 0] (slot_inb t) k) Q) := by
  unfold waitOn owing
  rw [show kcell (c, some b) = ((c : Thread nD τ), SemLoc.dma q) from Prod.ext rfl hq]
  have he : (sched (F := F) m).expect ((c : Thread nD τ), SemLoc.dma q) 0 = N := by rw [← hq]; exact expect_some m c b
  have hp : bigSep ((sched (F := F) m).duties ((c : Thread nD τ), SemLoc.dma q) 0 \ ∅)
      (fun d => (sched (F := F) m).payload ((c : Thread nD τ), SemLoc.dma q) 0 d) = pay m c (some b) 0 := by rw [← hq]; exact rest_some m c b
  have hi : records (F := F) m K ⊢ cellInv ER (sched m) (K (c, some b)) ((c : Thread nD τ), SemLoc.dma q) := by rw [← hq]; exact inv_at m K (c, some b)
  iintro ⟨#HR, ⟨HC, HA⟩, ⟨%W, HO⟩⟩ Hk
  iapply (Rounds.wp_wait_rest_token 𝒱₀ ER (sched m) (c : Thread nD τ) none (κ := K (c, some b))
      (wpE_waitDma2_eq 𝒱₀ (c : Thread nD τ) none Set.univ) (Set.mem_univ _) () (O := 0) (W := W) (R := 0) (m := 0) (T := ∅)
      (by rw [Nat.zero_add, he]; rfl)) $$ [HC HO HA]
  · isplitr; · iapply hi; iexact HR
    isplitl [HC]; · iexact HC
    isplitl [HO]; · iexact HO
    isplitr; · rw [MayWait_zero]; iempintro
    iexact HA
  iintro ⟨HO, HA, -, Hp⟩
  ihave Hp := (Entails.of_eq hp) $$ Hp
  iapply Hk
  isplitr [HO]
  · isplitl [Hp]; · iexact Hp
    iexact HA
  iexists _; iexact HO

/-! ## The sum -/

omit [FloatOps F] in
theorem zero3 : (![0, 0, 0] : Fin 3 → Nat) = fun _ => 0 := funext fun a => by fin_cases a <;> rfl
omit [FloatOps F] in
theorem zero2 : (![0, 0] : Fin 2 → Nat) = fun _ => 0 := funext fun a => by fin_cases a <;> rfl

theorem wp_total (c : Dev nD) {Q : PUnit → sProp 𝕄} (g : (cc0_scratch2 : Ref sig .tc).ty.Contents (Elt F)) (f : (cc0_stg0_0 : Ref sig .tc).ty.Contents (Elt F)) :
    iprop((((c : Thread nD τ).loc cc0_scratch2) ↦{fullShare} g) ∗ (((c : Thread nD τ).loc cc0_stg0_0) ↦{fullShare} f))
      ⊢ iprop((iprop((((c : Thread nD τ).loc cc0_scratch2) ↦{fullShare} g) ∗ (((c : Thread nD τ).loc cc0_stg0_0) ↦{fullShare} (k0_pay1 g))) -∗ |={Set.univ}=> Q ⟨⟩)
          -∗ WP c total Q) := by
  unfold total
  iintro ⟨Hg, Hf⟩ Hk
  iapply (wp_load 𝒱₀ (c : Thread nD τ) none Set.univ (m := cM) (Finset.subset_univ _)) $$ Hg; iintro Hg
  rw [show View.readAt (Elt F) cM.view allR.toLoadRect g = g from Memref.readAt_unit_zero (Elt F) cc0_scratch2 zero3 _ g]
  iapply (wp_load 𝒱₀ (c : Thread nD τ) none Set.univ (m := oM) (Finset.subset_univ _)) $$ Hf; iintro Hf
  iapply (wp_store 𝒱₀ (c : Thread nD τ) none Set.univ (m := oM) (r := outR) (Mk := Finset.univ) (Finset.subset_univ _)) $$ Hf; iintro Hf
  rw [show (oM.access outR).write (Elt F) f (k0_pay1 g) Finset.univ = k0_pay1 g from Memref.write_access_unit_zero_univ (Elt F) cc0_stg0_0 zero2 _ f _, wp_ret]
  iapply Hk
  isplitl [Hg] <;> iassumption

/-! ## The cells closed -/

theorem close_one (K : Dev nD × CK → ℕ) (ck : Dev nD × CK) : iprop(records m K ∗ atPos ER (kcell ck) 1 ∅ 0) ⊢ |={Set.univ}=> (semVal (kcell ck) 0 : sProp 𝕄) := by
  iintro ⟨#HR, HA⟩
  iapply (Rounds.cell_close ER (sched m) (Set.mem_univ (K ck)) (fun h => h) (R := 0 + 1) (duties_later m (kcell ck)))
  isplitr; · iapply (inv_at m K ck); iexact HR
  iexact HA

theorem close_all (K : Dev nD × CK → ℕ) {ι : Type} (f : ι → Dev nD × CK) : ∀ l : List ι,
    iprop(records m K ∗ res (fun i => atPos ER (kcell (f i)) 1 ∅ 0) l) ⊢ |={Set.univ}=> res (fun i => (semVal (kcell (f i)) 0 : sProp 𝕄)) l
  | [] => by unfold res; iintro -; imodintro; iempintro
  | i :: l => by
    unfold res
    iintro ⟨#HR, H1, H⟩
    imod (close_one m K (f i)) $$ [H1] with H1
    · isplitr; · iexact HR
      iexact H1
    imod (close_all K f l) $$ [H] with H
    · isplitr; · iexact HR
      iexact H
    imodintro
    isplitl [H1] <;> iassumption

end Cert.KernelIdeal.Loop

end
-- ==== Proof.KernelIdeal.Body.lean ====
/-
# The body of one device

`sound_body` runs the whole body of device `c` from the resources the launch deals it (`dealt`) to what it leaves
(`left`): its result buffer holds `k0_pay1` of the sixteen partial results (`outAt`), its shards are as they were.
-/
module

public import proofs.«01_k».proof.Proof.KernelIdeal.Exchange

@[expose] public section

noncomputable section

namespace Cert.KernelIdeal.Loop

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers cut into blocks -/

/-- The elements of chunk `j` of a shard's buffer. -/
def rows {sp : Space} (r : Memref sig .tc sp S2048x2048 .f32) (j : Fin 16) : Finset r.view.ty.Idx := (chunkSet j).map r.view.emb

theorem rows_disjoint {sp : Space} (r : Memref sig .tc sp S2048x2048 .f32) (j j' : Fin 16) (h : j ≠ j') : Disjoint (rows r j) (rows r j') :=
  (Finset.disjoint_map _).mpr (chunkSet_disjoint h)
theorem rows_cover {sp : Space} (r : Memref sig .tc sp S2048x2048 .f32) (hr : r.view.set = Finset.univ) : Finset.univ.biUnion (rows r) = Finset.univ := by
  refine Finset.eq_univ_iff_forall.mpr fun i => ?_
  obtain ⟨y, -, rfl⟩ := Finset.mem_map.mp (hr.symm ▸ Finset.mem_univ i : i ∈ r.view.set)
  obtain ⟨j, -, hj⟩ := Finset.mem_biUnion.mp (chunkSet_cover.symm ▸ Finset.mem_univ y)
  exact Finset.mem_biUnion.mpr ⟨j, Finset.mem_univ _, Finset.mem_map_of_mem _ hj⟩

omit [FloatOps F] in
theorem cPts_rows {sp : Space} (r : Memref sig .tc sp S2048x2048 .f32) (c : Dev nD) (j : Fin 16) (f : Buf (Elt F) (r.view.loc (c : Thread nD τ))) :
    cPts r c j f = (r.view.loc (c : Thread nD τ) ↦[rows r j]{fullShare} f : sProp 𝕄) := by
  have h : rows r j = (ch r j).view.set := (View.set_slice r.view (chunkR j)).symm
  rw [h]; rfl

omit [FloatOps F] in
/-- A shard's buffer held whole is held chunk by chunk. -/
theorem chunks_eq {sp : Space} (r : Memref sig .tc sp S2048x2048 .f32) (hr : r.view.set = Finset.univ) (c : Dev nD) (f : Buf (Elt F) (r.view.loc (c : Thread nD τ))) :
    (r.view.loc (c : Thread nD τ) ↦{fullShare} f : sProp 𝕄) = res (fun j => cPts r c j f) l16 := by
  rw [res16, bigSep_congr fun j _ => cPts_rows r c j f]
  exact Ring.pointsTo_blocks (ℓ := r.view.loc (c : Thread nD τ)) (rows r) (rows_disjoint r) (rows_cover r hr) f

theorem univ_dev {g : Fin 15 → Dev nD} (hg : Function.Injective g) (c : Dev nD) (hc : ∀ i, g i ≠ c) (h : ∀ s, s ≠ c → ∃ i, g i = s) :
    (Finset.univ : Finset (Dev nD)) = insert c (Finset.univ.map ⟨g, hg⟩) := by
  ext s
  simp only [Finset.mem_univ, Finset.mem_insert, Finset.mem_map, true_and, Function.Embedding.coeFn_mk, true_iff]
  by_cases e : s = c
  · exact Or.inl e
  · exact Or.inr (h s e)

omit [FloatOps F] in
/-- Something held of every device is held of this one and of the fifteen others. -/
theorem dev_split {g : Fin 15 → Dev nD} (hg : Function.Injective g) (c : Dev nD) (hc : ∀ i, g i ≠ c) (h : ∀ s, s ≠ c → ∃ i, g i = s) (Φ : Dev nD → sProp 𝕄) :
    bigSep Finset.univ Φ = iprop(Φ c ∗ res (fun i => Φ (g i)) l15) := by
  rw [res15, univ_dev hg c hc h, bigSep_insert, bigSep_map]
  · rfl
  · intro hm; obtain ⟨i, -, hi⟩ := Finset.mem_map.mp hm; exact hc i hi

theorem dn_ne (c : Dev nD) (i : Fin 15) : dn c i ≠ c := by rw [← up_rev]; exact up_ne c _
theorem dn_inj (c : Dev nD) : Function.Injective (dn c) := fun i j h => by
  rw [← up_rev, ← up_rev] at h; exact Fin.rev_injective (up_inj c h)
theorem exists_dn (c s : Dev nD) (h : s ≠ c) : ∃ i, dn c i = s := by
  obtain ⟨i, hi⟩ := exists_up c s h; exact ⟨i.rev, by rw [dn_rev, hi]⟩

omit [FloatOps F] in
theorem slots_eq (c : Dev nD) (f : (cc0_scratch2 : Ref sig .tc).ty.Contents (Elt F)) :
    (((c : Thread nD τ).loc cc0_scratch2) ↦{fullShare} f : sProp 𝕄) = bigSep Finset.univ fun s => slotPts c s fullShare f :=
  Ring.pointsTo_blocks (ℓ := (c : Thread nD τ).loc cc0_scratch2) slotSet (fun _ _ h => slotSet_disjoint h) slotSet_cover f
omit [FloatOps F] in
theorem slots_up (c : Dev nD) (f : (cc0_scratch2 : Ref sig .tc).ty.Contents (Elt F)) :
    (((c : Thread nD τ).loc cc0_scratch2) ↦{fullShare} f : sProp 𝕄) = iprop(slotPts c c fullShare f ∗ res (fun i => slotPts c (up c i) fullShare f) l15) :=
  (slots_eq c f).trans (dev_split (up_inj c) c (up_ne c) (exists_up c) _)
omit [FloatOps F] in
theorem slots_dn (c : Dev nD) (f : (cc0_scratch2 : Ref sig .tc).ty.Contents (Elt F)) :
    (((c : Thread nD τ).loc cc0_scratch2) ↦{fullShare} f : sProp 𝕄) = iprop(slotPts c c fullShare f ∗ res (fun i => slotPts c (dn c i) fullShare f) l15) :=
  (slots_eq c f).trans (dev_split (dn_inj c) c (dn_ne c) (exists_dn c) _)

omit [FloatOps F] in
theorem res_mono {ι : Type} {Φ Ψ : ι → sProp 𝕄} (h : ∀ i, Φ i ⊢ Ψ i) : ∀ l, res Φ l ⊢ res Ψ l
  | [] => BI.Entails.refl _
  | i :: l => BIClass.sep_mono (h i) (res_mono h l)

omit [FloatOps F] in
theorem revs (Φ : Fin 15 → sProp 𝕄) : bigSep Finset.univ Φ = res (fun i => Φ i.rev) l15 := by
  rw [res15]; exact bigSep_univ_equiv Fin.revPerm Φ

/-! ## What the body starts from and leaves -/

/-- The result on every device: the sixteen partial results added up. -/
def outAt : (cc0_stg0_0 : Ref sig .tc).ty.Contents (Elt F) := k0_pay1 (gath m)

/-- The positions and duty tokens device `c` holds of the protocol. -/
def linear (c : Dev nD) : sProp 𝕄 :=
  iprop(atPos ER (barCell c) 0 ∅ 0 ∗ res (fun i => atPos ER (sendCell c i) 0 ∅ 0) l15 ∗ res (fun i => atPos ER (recvCell c i) 0 ∅ 0) l15
    ∗ res (fun i => dutyTok ER (barCell (up c i)) 0 i) l15 ∗ res (fun i => dutyTok ER (sendCell c i) 0 0) l15
    ∗ res (fun i => dutyTok ER (recvCell (up c i) i) 0 0) l15)
/-- The credit it waits with. -/
def credits (c : Dev nD) : sProp 𝕄 := iprop(cred (tallyAt (barCell c) () 15) ∗ res (fun i => cred (tallyAt (recvCell c i) () N)) l15)
/-- The semaphores of the local copies, at zero. -/
def loadSems (c : Dev nD) : sProp 𝕄 := iprop(res (fun j => semVal (lCell c 0 j) 0) l16 ∗ res (fun j => semVal (lCell c 1 j) 0) l16)
/-- The shards, and the scratch buffers at some contents. -/
def shards (c : Dev nD) : sProp 𝕄 :=
  iprop((((c : Thread nD τ).loc main_arg0) ↦{fullShare} xIn m c) ∗ (((c : Thread nD τ).loc main_arg1) ↦{fullShare} yIn m c))
def scratches (c : Dev nD) : sProp 𝕄 :=
  iprop((∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f))
/-- The protocol's semaphores closed. -/
def closedSems (c : Dev nD) : sProp 𝕄 :=
  iprop(semVal (barCell c) 0 ∗ res (fun i => semVal (sendCell c i) 0) l15 ∗ res (fun i => semVal (recvCell c i) 0) l15)

/-- What the launch deals device `c`. -/
def dealt (K : Dev nD × CK → ℕ) (c : Dev nD) : sProp 𝕄 :=
  iprop(records m K ∗ levAts L lv ∗ linear c ∗ credits c ∗ loadSems c ∗ shards m c ∗ scratches c)
/-- What the body leaves. -/
def left (c : Dev nD) : sProp 𝕄 := iprop(shards m c ∗ scratches c ∗ closedSems c ∗ loadSems c)

/-! ## The body -/

theorem open_start (c : Dev nD) :
    iprop(shards m c ∗ loadSems c ∗ (∃ f, ((c : Thread nD τ).loc cc0_scratch0) ↦{fullShare} f) ∗ (∃ f, ((c : Thread nD τ).loc cc0_scratch1) ↦{fullShare} f))
      ⊢ res (startPre m c) l16 := by
  unfold shards loadSems
  iintro ⟨⟨Hx, Hy⟩, ⟨H0, H1⟩, ⟨%f, HX⟩, ⟨%g, HY⟩⟩
  ihave Hx := (Entails.of_eq (chunks_eq xH (View.set_whole _) c (xIn m c))) $$ Hx
  ihave Hy := (Entails.of_eq (chunks_eq yH (View.set_whole _) c (yIn m c))) $$ Hy
  ihave HX := (Entails.of_eq (chunks_eq xB (View.set_whole _) c f)) $$ HX
  ihave HY := (Entails.of_eq (chunks_eq yB (View.set_whole _) c g)) $$ HY
  ihave HX := (res_mono (Φ := fun j => cPts xB c j f) (Ψ := fun j => iprop(∃ f, cPts xB c j f)) (fun j => by iintro H; iexists f; iexact H) l16) $$ HX
  ihave HY := (res_mono (Φ := fun j => cPts yB c j g) (Ψ := fun j => iprop(∃ f, cPts yB c j f)) (fun j => by iintro H; iexists g; iexact H) l16) $$ HY
  unfold startPre
  iapply (res_sep _ _ l16).2
  isplitl [Hx]; · iexact Hx
  iapply (res_sep _ _ l16).2
  isplitl [Hy]; · iexact Hy
  iapply (res_sep _ _ l16).2
  isplitl [HX]; · iexact HX
  iapply (res_sep _ _ l16).2
  isplitl [HY]; · iexact HY
  iapply (res_sep _ _ l16).2
  isplitl [H0] <;> iassumption

theorem close_load (c : Dev nD) :
    res (loaded m c) l16
      ⊢ iprop(shards m c ∗ loadSems c ∗ (∃ f, ((c : Thread nD τ).loc cc0_scratch0) ↦{fullShare} f) ∗ (∃ f, ((c : Thread nD τ).loc cc0_scratch1) ↦{fullShare} f)) := by
  unfold loaded shards loadSems
  iintro H
  ihave H := (res_sep _ _ l16).1 $$ H
  icases H with ⟨Hx, H⟩
  ihave H := (res_sep _ _ l16).1 $$ H
  icases H with ⟨Hy, H⟩
  ihave H := (res_sep _ _ l16).1 $$ H
  icases H with ⟨HX, H⟩
  ihave H := (res_sep _ _ l16).1 $$ H
  icases H with ⟨HY, H⟩
  ihave H := (res_sep _ _ l16).1 $$ H
  icases H with ⟨H0, H1⟩
  ihave Hx := (Entails.of_eq (chunks_eq xH (View.set_whole _) c (xIn m c)).symm) $$ Hx
  ihave Hy := (Entails.of_eq (chunks_eq yH (View.set_whole _) c (yIn m c)).symm) $$ Hy
  ihave HX := (Entails.of_eq (chunks_eq xB (View.set_whole _) c (xIn m c)).symm) $$ HX
  ihave HY := (Entails.of_eq (chunks_eq yB (View.set_whole _) c (yIn m c)).symm) $$ HY
  isplitl [Hx Hy]
  · isplitl [Hx]; · iexact Hx
    iexact Hy
  isplitl [H0 H1]
  · isplitl [H0]; · iexact H0
    iexact H1
  isplitl [HX]
  · iexists _; iexact HX
  · iexists _; iexact HY

/-- The first half, to the barrier's wait. -/
theorem wp_front (K : Dev nD × CK → ℕ) (c : Dev nD) {Q : PUnit → sProp 𝕄} (k : FVec F S2x2048 .f32 → Pr F) :
    iprop(records m K ∗ levAts L lv ∗ res (startPre m c) l16 ∗ res (sigPre c) l15 ∗ owing c (O₀ c))
      ⊢ iprop((iprop(res (loaded m c) l16 ∗ owing c (owedRecv c l15)) -∗ WP c (k (acc m c)) Q)
          -∗ WP c (each startChunk l16 (each (fun i => signalTo (up c i)) l15 (chunks l16 k0_pay2 k))) Q) := by
  iintro ⟨#HR, #Hlev, Hst, Hsg, HO⟩ Hk
  iapply (wp_each c startChunk iprop(emp) (startPre m c) (started m c) (fun _ => iprop(emp)) (fun j _ k => wp_start m c j k) l16 _) $$ [Hst]
  · isplitr; · iempintro
    isplitl [Hst]; · iexact Hst
    iempintro
  iintro ⟨Hst, -⟩
  iapply (wp_each c (fun i => signalTo (up c i)) (records m K) (sigPre c) (fun _ => iprop(emp)) (fun l => owing c (owedRecv c l15 + owedBar c l))
    (fun i l k => wp_signals m K c (owedRecv c l15) i l k) l15 _) $$ [Hsg HO]
  · isplitr; · iexact HR
    isplitl [Hsg]; · iexact Hsg
    unfold O₀; iexact HO
  iintro ⟨-, HO⟩
  iapply (wp_chunks m c l15 [] l16 k0_pay2 k) $$ [Hst HO]
  · isplitr; · iexact Hlev
    isplitl [Hst] <;> iassumption
  iintro ⟨Hl, HO⟩
  rw [show owedRecv c l15 + owedBar c [] = owedRecv c l15 from add_zero _]
  iapply Hk
  isplitl [Hl] <;> iassumption

/-- The shares of its own slot a device lends its fifteen copies, and the rest. -/
theorem lend (c : Dev nD) :
    slotPts c c fullShare (gath m) ⊢ iprop(slotPts c c (Transfers.shareDrop fullShare 15) (gath m) ∗ res (fun i => slotPts c c (tok i) (gath m)) l15) := by
  rw [res15]; exact Transfers.pointsTo_toks_split fullShare 15
theorem unlend (c : Dev nD) :
    iprop(slotPts c c (Transfers.shareDrop fullShare 15) (gath m) ∗ res (fun i => slotPts c c (tok i) (gath m)) l15) ⊢ slotPts c c fullShare (gath m) := by
  rw [res15]; exact Transfers.pointsTo_toks_join fullShare 15

omit [FloatOps F] in
theorem targets (c : Dev nD) :
    bigSep Finset.univ (fun i => iprop(∃ f, slotPts (dn c i) c fullShare f)) ⊢ (res (fun i => iprop(∃ f, slotPts (up c i) c fullShare f)) l15 : sProp 𝕄) := by
  rw [revs]; exact res_mono (fun i => by rw [dn_rev]) _

/-- The second half, from the barrier's wait: the partial result goes round and the sixteen are added up. -/
theorem wp_back (K : Dev nD × CK → ℕ) (c : Dev nD) (f : (cc0_scratch2 : Ref sig .tc).ty.Contents (Elt F)) (g : (cc0_stg0_0 : Ref sig .tc).ty.Contents (Elt F))
    {Q : PUnit → sProp 𝕄} :
    iprop(records m K ∗ levAts L lv ∗ credits c ∗ (atPos ER (barCell c) 0 ∅ 0 ∗ res (fun i => atPos ER (sendCell c i) 0 ∅ 0) l15 ∗ res (fun i => atPos ER (recvCell c i) 0 ∅ 0) l15)
        ∗ (res (fun i => dutyTok ER (sendCell c i) 0 0) l15 ∗ res (fun i => dutyTok ER (recvCell (up c i) i) 0 0) l15)
        ∗ owing c (owedRecv c l15) ∗ slotPts c c fullShare f ∗ (((c : Thread nD τ).loc cc0_stg0_0) ↦{fullShare} g))
      ⊢ iprop((iprop((((c : Thread nD τ).loc cc0_scratch2) ↦{fullShare} gath m) ∗ (((c : Thread nD τ).loc cc0_stg0_0) ↦{fullShare} outAt m) ∗ closedSems c ∗ owing c 0) -∗ Q ⟨⟩)
        -∗ WP c (.op (.semWait barS ((15 : ℕ) : ℤ)) fun _ => putAt ![c.val, 0, 0] (slot_inb c) (acc m c) <|
          each (fun i => sendTo ![c.val, 0, 0] (slot_inb c) (up c i) i) l15 <|
          each (fun i => waitOn (ssem i) ![c.val, 0, 0] (slot_inb c) ![c.val, 0, 0] (slot_inb c)) l15 <|
          each (fun i => waitOn (rsem i) ![c.val, 0, 0] (slot_inb c) ![(dn c i).val, 0, 0] (slot_inb (dn c i))) l15 total) Q) := by
  unfold credits closedSems
  iintro ⟨#HR, #Hlev, ⟨Hcb, Hcr⟩, ⟨Hab, Has, Har⟩, ⟨Hts, Htr⟩, HO, Hslot, Hout⟩ Hk
  iapply (wp_barrier m K c l15 _) $$ [Hcb Hab HO]
  · isplitr; · iexact HR
    isplitr; · iexact Hlev
    isplitl [Hcb]; · iexact Hcb
    isplitl [Hab] <;> iassumption
  iintro ⟨Hd, Hab, HO⟩
  ihave Hd := (targets c) $$ Hd
  iapply (wp_put m c f _) $$ Hslot
  iintro Hslot
  ihave Hslot := (lend m c) $$ Hslot
  icases Hslot with ⟨Hkeep, Htok⟩
  iapply (wp_each c (fun i => sendTo ![c.val, 0, 0] (slot_inb c) (up c i) i) (records m K) (sendPre m c) (fun i => cred (tallyAt (sendCell c i) () N)) (fun l => owing c (owedRecv c l))
    (fun i l k => wp_sends m K c i l k) l15 _) $$ [Htok Hd Hts Htr HO]
  · isplitr; · iexact HR
    isplitr [HO]
    · unfold sendPre
      iapply (res_sep _ _ l15).2
      isplitl [Htok]; · iexact Htok
      iapply (res_sep _ _ l15).2
      isplitl [Hd]; · iexact Hd
      iapply (res_sep _ _ l15).2
      isplitl [Hts] <;> iassumption
    iexact HO
  iintro ⟨Hcs, HO⟩
  rw [show owedRecv c [] = 0 from rfl]
  iapply (wp_each c (fun i => waitOn (ssem i) ![c.val, 0, 0] (slot_inb c) ![c.val, 0, 0] (slot_inb c)) (records m K)
    (fun i => iprop(cred (tallyAt (sendCell c i) () N) ∗ atPos ER (sendCell c i) 0 ∅ 0)) (fun i => iprop(slotPts c c (tok i) (gath m) ∗ atPos ER (sendCell c i) 1 ∅ 0)) (fun _ => owing c 0)
    (fun i l k => wp_arrive m K c (false, i) (ssem i) rfl c c k) l15 _) $$ [Hcs Has HO]
  · isplitr; · iexact HR
    isplitr [HO]
    · iapply (res_sep _ _ l15).2
      isplitl [Hcs] <;> iassumption
    iexact HO
  iintro ⟨Hs, HO⟩
  ihave Hs := (res_sep _ _ l15).1 $$ Hs
  icases Hs with ⟨Htok, Has⟩
  ihave Hslot := (unlend m c) $$ [Hkeep Htok]
  · isplitl [Hkeep] <;> iassumption
  iapply (wp_each c (fun i => waitOn (rsem i) ![c.val, 0, 0] (slot_inb c) ![(dn c i).val, 0, 0] (slot_inb (dn c i))) (records m K)
    (fun i => iprop(cred (tallyAt (recvCell c i) () N) ∗ atPos ER (recvCell c i) 0 ∅ 0)) (fun i => iprop(slotPts c (dn c i) fullShare (gath m) ∗ atPos ER (recvCell c i) 1 ∅ 0)) (fun _ => owing c 0)
    (fun i l k => wp_arrive m K c (true, i) (rsem i) rfl c (dn c i) k) l15 _) $$ [Hcr Har HO]
  · isplitr; · iexact HR
    isplitr [HO]
    · iapply (res_sep _ _ l15).2
      isplitl [Hcr] <;> iassumption
    iexact HO
  iintro ⟨Hs, HO⟩
  ihave Hs := (res_sep _ _ l15).1 $$ Hs
  icases Hs with ⟨Hin, Har⟩
  ihave Hcomm := (Entails.of_eq (slots_dn c (gath m)).symm) $$ [Hslot Hin]
  · isplitl [Hslot] <;> iassumption
  iapply (wp_total c (gath m) g) $$ [Hcomm Hout]
  · isplitl [Hcomm] <;> iassumption
  iintro ⟨Hcomm, Hout⟩
  imod (close_one m K (c, none)) $$ [Hab] with Hzb
  · isplitr; · iexact HR
    iexact Hab
  imod (close_all m K (fun i => (c, some (false, i))) l15) $$ [Has] with Hzs
  · isplitr; · iexact HR
    iexact Has
  imod (close_all m K (fun i => (c, some (true, i))) l15) $$ [Har] with Hzr
  · isplitr; · iexact HR
    iexact Har
  imodintro
  iapply Hk
  isplitl [Hcomm]; · iexact Hcomm
  isplitl [Hout]; · iexact Hout
  isplitr [HO]
  · isplitl [Hzb]; · iexact Hzb
    isplitl [Hzs] <;> iassumption
  iexact HO

/-- The whole body of device `c`. -/
theorem sound_body (K : Dev nD × CK → ℕ) (c : Dev nD) (g : (cc0_stg0_0 : Ref sig .tc).ty.Contents (Elt F)) {Q : PUnit → sProp 𝕄} :
    iprop(dealt m K c ∗ owing c (O₀ c) ∗ (((c : Thread nD τ).loc cc0_stg0_0) ↦{fullShare} g))
      ⊢ iprop((iprop(left m c ∗ owing c 0 ∗ (((c : Thread nD τ).loc cc0_stg0_0) ↦{fullShare} outAt m)) -∗ Q ⟨⟩)
        -∗ WP c (cc0_body (F := F) xH (Memref.isWhole_whole _) yH (Memref.isWhole_whole _) oM (Memref.isWhole_whole _)
          xB (Memref.isWhole_whole _) yB (Memref.isWhole_whole _) cM (Memref.isWhole_whole _) cc0_scratch3 cc0_scratch4 cc0_scratch5) Q) := by
  rw [body_eq]
  simp only [wp_deviceId]
  unfold bodyOn dealt linear scratches
  iintro ⟨⟨#HR, #Hlev, ⟨Hab, Has, Har, Htb, Hts, Htr⟩, Hcred, Hls, Hsh, H0, H1, ⟨%f, H2⟩⟩, HO, Hout⟩ Hk
  ihave H2 := (Entails.of_eq (slots_up c f)) $$ H2
  icases H2 with ⟨Hown, Hothers⟩
  ihave Hothers := (res_mono (Φ := fun i => slotPts c (up c i) fullShare f) (Ψ := fun i => iprop(∃ f, slotPts c (up c i) fullShare f)) (fun i => by iintro H; iexists f; iexact H) l15) $$ Hothers
  ihave Hst := (open_start m c) $$ [Hsh Hls H0 H1]
  · isplitl [Hsh]; · iexact Hsh
    isplitl [Hls]; · iexact Hls
    isplitl [H0] <;> iassumption
  iapply (wp_front m K c _) $$ [Hst Hothers Htb HO]
  · isplitr; · iexact HR
    isplitr; · iexact Hlev
    isplitl [Hst]; · iexact Hst
    isplitr [HO]
    · unfold sigPre
      iapply (res_sep _ _ l15).2
      isplitl [Hothers] <;> iassumption
    iexact HO
  iintro ⟨Hl, HO⟩
  ihave Hl := (close_load m c) $$ Hl
  icases Hl with ⟨Hsh, Hls, H0, H1⟩
  iapply (wp_back m K c f g) $$ [Hcred Hab Has Har Hts Htr HO Hown Hout]
  · isplitr; · iexact HR
    isplitr; · iexact Hlev
    isplitl [Hcred]; · iexact Hcred
    isplitl [Hab Has Har]
    · isplitl [Hab]; · iexact Hab
      isplitl [Has] <;> iassumption
    isplitl [Hts Htr]
    · isplitl [Hts] <;> iassumption
    isplitl [HO]; · iexact HO
    isplitl [Hown] <;> iassumption
  iintro ⟨H2, Hout, Hsems, HO⟩
  iapply Hk
  unfold left scratches
  isplitr [HO Hout]
  · isplitl [Hsh]; · iexact Hsh
    isplitl [H0 H1 H2]
    · isplitl [H0]; · iexact H0
      isplitl [H1]; · iexact H1
      iexists _; iexact H2
    isplitl [Hsems] <;> iassumption
  isplitl [HO] <;> iassumption

/-! ## The body as the pipeline's obligation -/

/-- What device `c` starts its one step from, the scratch buffers apart. -/
def start (c : Dev nD) : sProp 𝕄 :=
  iprop((∃ K, records m K ∗ linear c ∗ loadSems c) ∗ levAts L lv ∗ credits c ∗ shards m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m
  Φ t := match t with
    | ⟨0, _⟩ => iprop(start m c ∗ scratches c)
    | ⟨_ + 1, _⟩ => left m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m c ∗ scratches c) ∗ (dats m ρ 0 c).owesAt () (t0_0 : Fin cfg0.N).castSucc ∗ (∃ d, stg c cc0_stg0_0 ((dats m ρ 0 c).before (0 : Fin 1) t0_0 d)))
def bodyPost (c : Dev nD) : sProp 𝕄 :=
  iprop(left m c ∗ (dats m ρ 0 c).owesAt () (t0_0 : Fin cfg0.N).succ ∗ stg c cc0_stg0_0 (outAt m))

set_option maxRecDepth 20000 in
/-- The pipeline's obligation for its one step. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body (F := F) xH (Memref.isWhole_whole _) yH (Memref.isWhole_whole _) oM (Memref.isWhole_whole _)
          xB (Memref.isWhole_whole _) yB (Memref.isWhole_whole _) cM (Memref.isWhole_whole _) cc0_scratch3 cc0_scratch4 cc0_scratch5) (fun _ => bodyPost m ρ c)
  unfold bodyPre start Dat.owesAt Pipeline.owesWithin
  rw [show (dats m ρ 0 c).owed (t0_0 : Fin cfg0.N).castSucc = O₀ c from rfl]
  iintro ⟨⟨⟨⟨%K, #HR, Hlin, Hls⟩, #Hlev, Hcr, Hsh⟩, Hscr⟩, ⟨%W, -, HO⟩, ⟨%d, %g, -, Hout⟩⟩
  iapply (sound_body m K c g) $$ [Hlin Hls Hcr Hsh Hscr HO Hout]
  · unfold dealt owing
    isplitr [HO Hout]
    · isplitr; · iexact HR
      isplitr; · iexact Hlev
      isplitl [Hlin]; · iexact Hlin
      isplitl [Hcr]; · iexact Hcr
      isplitl [Hls]; · iexact Hls
      isplitl [Hsh] <;> iassumption
    isplitl [HO]
    · iexists W; iexact HO
    iexact Hout
  unfold owing
  iintro ⟨Hl, ⟨%W', HO⟩, Hout⟩
  unfold bodyPost Dat.owesAt Pipeline.owesWithin
  rw [show (dats m ρ 0 c).owed (t0_0 : Fin cfg0.N).succ = 0 from rfl]
  isplitl [Hl]; · iexact Hl
  isplitl [HO]
  · iexists W'
    isplitr; · ipureintro; exact fun _ _ => Or.inl trivial
    iexact HO
  iexists _; isplitr; · (ipureintro; rfl)
  iexact Hout

end Cert.KernelIdeal.Loop

end
-- ==== Proof.KernelIdeal.Run.lean ====
/-
# The launch

From what the launch deals all sixteen devices to what each device's body starts from: the protocol's cells are
allocated, the tokens of a cell's duties go to the devices that pay them. `run_main` is the run of the whole program.
-/
module

public import proofs.«01_k».proof.Proof.KernelIdeal.Body
public import Idealize.ShloMosaic.Lib.Pipeline.CollectiveSegs

@[expose] public section

noncomputable section

namespace Cert.KernelIdeal.Loop

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the protocol's semaphores -/

omit [FloatOps F] in
theorem bigSep_flags (Φ : Bool × Fin 15 → sProp 𝕄) : bigSep Finset.univ Φ = iprop(res (fun i => Φ (false, i)) l15 ∗ res (fun i => Φ (true, i)) l15) := by
  rw [bigSep_univ_prod, bigSep_univ_eq_bigSepL [false, true] (by decide) (by decide), res15, res15]; rfl

omit [FloatOps F] in
theorem bigSep_CK (Φ : CK → sProp 𝕄) :
    bigSep Finset.univ Φ = iprop(Φ none ∗ res (fun i => Φ (some (false, i))) l15 ∗ res (fun i => Φ (some (true, i))) l15) := by
  have hu : (Finset.univ : Finset CK) = insert none (Finset.univ.map Function.Embedding.some) := by decide
  rw [hu, bigSep_insert (by decide), bigSep_map]
  exact congrArg (fun P => iprop(Φ none ∗ P)) (bigSep_flags fun b => Φ (some b))

/-- The kernel's own semaphores: those of the local copies, and the send and receive ones. -/
abbrev OK : Type := (Fin 2 × Fin 16) ⊕ (Bool × Fin 15)
def osem : OK → SemLoc sig := Sum.elim (fun p => .dma (lsem p.1 p.2)) (fun b => csem (some b))
theorem ownSemFacts : Pipeline.OwnSemFacts cfg0.spec osem := by decide +kernel

omit [FloatOps F] in
theorem ownSems0_eq (c : Dev nD) : (Pipeline.ownSems0 (Ix := Unit) (Name := ℕ) (U := UU) (Lvl := ℕ) (Val := Elt F) (τ := τ) osem c : sProp 𝕄)
    = iprop(loadSems c ∗ res (fun i => semVal (sendCell c i) 0) l15 ∗ res (fun i => semVal (recvCell c i) 0) l15) := by
  unfold Pipeline.ownSems0 loadSems
  rw [bigSep_univ_sum, bigSep_univ_prod, bigSep_flags, bigSep_univ_eq_bigSepL [0, 1] (by decide) (by decide), res16, res16]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-! ## The launch element -/

def ringCells : Finset (GSem nD τ sig) := Finset.univ.map ⟨kcell, kcell_inj⟩

/-- The duties of device `c`'s cells: its barrier's fifteen, and one of each send and receive cell. -/
def tokOf (ck : Dev nD × (Fin 15 ⊕ (Bool × Fin 15))) : GSem nD τ sig × ℕ × Fin 15 :=
  match ck.2 with
  | .inl i => (barCell ck.1, 0, i)
  | .inr b => (kcell (ck.1, some b), 0, 0)
theorem tokOf_inj : Function.Injective tokOf := by
  rintro ⟨c, k⟩ ⟨c', k'⟩ h
  rcases k with i | b <;> rcases k' with i' | b'
  · have h1 := kcell_inj (congrArg (fun x : GSem nD τ sig × ℕ × Fin 15 => x.1) h)
    have h2 : i = i' := congrArg (fun x : GSem nD τ sig × ℕ × Fin 15 => x.2.2) h
    cases h1; rw [h2]
  · have h1 := kcell_inj (congrArg (fun x : GSem nD τ sig × ℕ × Fin 15 => x.1) h); cases h1
  · have h1 := kcell_inj (congrArg (fun x : GSem nD τ sig × ℕ × Fin 15 => x.1) h); cases h1
  · have h1 := kcell_inj (congrArg (fun x : GSem nD τ sig × ℕ × Fin 15 => x.1) h); cases h1; rfl
def ringToks : Finset (GSem nD τ sig × ℕ × Fin 15) := Finset.univ.map ⟨tokOf, tokOf_inj⟩

def u₀ : UU := (initOf (Pipeline.cells cfgs cellOf_inj) (Pipeline.launchToks cfgs cellOf_inj), (initOf ringCells ringToks, 1))

/-- The duty tokens of device `c`'s own cells. -/
def toks (c : Dev nD) : sProp 𝕄 :=
  iprop(res (fun i => dutyTok ER (barCell c) 0 i) l15 ∗ res (fun i => dutyTok ER (sendCell c i) 0 0) l15 ∗ res (fun i => dutyTok ER (recvCell c i) 0 0) l15)
/-- The tokens of the duties device `c` pays. -/
def payToks (c : Dev nD) : sProp 𝕄 :=
  iprop(res (fun i => dutyTok ER (barCell (up c i)) 0 i) l15 ∗ res (fun i => dutyTok ER (sendCell c i) 0 0) l15 ∗ res (fun i => dutyTok ER (recvCell (up c i) i) 0 0) l15)

def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)
def G' (c : Dev nD) : sProp 𝕄 := iprop(∃ K, records m K ∗ linear c ∗ loadSems c)

omit [FloatOps F] in
theorem toks_eq (c : Dev nD) :
    (bigSep Finset.univ fun k => (dutyTok ER (tokOf (c, k)).1 (tokOf (c, k)).2.1 (tokOf (c, k)).2.2 : sProp 𝕄)) = toks c := by
  rw [bigSep_univ_sum, bigSep_flags]; unfold toks; rw [res15]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocating the cells -/

/-- What is device `c`'s once its cells are allocated. -/
def allocated (c : Dev nD) : sProp 𝕄 :=
  iprop((bigSep Finset.univ fun k : CK => iprop(∃ κ : ℕ, cellInv ER (sched m) κ (kcell (c, k))))
    ∗ (bigSep Finset.univ fun k : CK => atPos ER (kcell (c, k)) 0 ∅ 0) ∗ (bigSep Finset.univ fun k : CK => reached ER (kcell (c, k)) 0) ∗ toks c ∗ loadSems c)

theorem core_alloc (c : Dev nD) :
    iprop(Pipeline.ownSems0 (Ix := Unit) (Name := ℕ) (U := UU) (Lvl := ℕ) (Val := Elt F) (τ := τ) osem c ∗ unscopedSems0 c ∗ G m c) ⊢ |={Set.univ}=> allocated m c := by
  unfold G allocated
  rw [ownSems0_eq, unscopedSems0_eq, bigSep_sep']
  iintro ⟨⟨Hls, Hs, Hr⟩, Hb, Hst, ⟨Hat, Hre⟩, Htok⟩
  ihave Hv := (Entails.of_eq (bigSep_CK (F := F) fun k => semVal (kcell (c, k)) 0).symm) $$ [Hs Hr Hb]
  · isplitl [Hb]; · iexact Hb
    isplitl [Hs] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hre]; · iexact Hre
  isplitl [Htok] <;> iassumption

/-- The pairs (device, distance), each device moved by its distance. -/
def round : Dev nD × Fin 15 ≃ Dev nD × Fin 15 where
  toFun p := (up p.1 p.2, p.2)
  invFun p := (dn p.1 p.2, p.2)
  left_inv p := Prod.ext (dn_up p.1 p.2) rfl
  right_inv p := Prod.ext (up_dn p.1 p.2) rfl

omit [FloatOps F] in
/-- What is dealt to every device once for each distance can be dealt to the device at that distance instead. -/
theorem around (Ψ : Dev nD → Fin 15 → sProp 𝕄) :
    (bigSep Finset.univ fun c => res (Ψ c) l15) = bigSep Finset.univ fun c => res (fun i => Ψ (up c i) i) l15 := by
  rw [bigSep_congr fun c _ => res15 (Ψ c), bigSep_congr fun c _ => res15 fun i => Ψ (up c i) i,
    ← bigSep_univ_prod (fun p : Dev nD × Fin 15 => Ψ p.1 p.2), ← bigSep_univ_prod (fun p : Dev nD × Fin 15 => Ψ (up p.1 p.2) p.2)]
  exact bigSep_univ_equiv round _

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep', around fun c i => dutyTok ER (barCell c) 0 i, around fun c i => dutyTok ER (recvCell c i) 0 0]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal (K : Dev nD × CK → ℕ) (c : Dev nD) :
    iprop(records m K ∗ (bigSep Finset.univ fun k : CK => atPos ER (kcell (c, k)) 0 ∅ 0) ∗ payToks c ∗ loadSems c) ⊢ G' m c := by
  unfold G' linear payToks
  rw [bigSep_CK]
  iintro ⟨#HR, ⟨Hb, Hs, Hr⟩, ⟨Tb, Ts, Tr⟩, Hl⟩
  iexists K
  isplitr; · iexact HR
  isplitr [Hl]
  · isplitl [Hb]; · iexact Hb
    isplitl [Hs]; · iexact Hs
    isplitl [Hr]; · iexact Hr
    isplitl [Tb]; · iexact Tb
    isplitl [Ts] <;> iassumption
  iexact Hl

theorem regroup : (bigSep Finset.univ fun c : Dev nD => allocated m c) ⊢ bigSep Finset.univ (G' m) := by
  unfold allocated
  rw [bigSep_sep', bigSep_sep', bigSep_sep', bigSep_sep', toks_around,
    ← bigSep_univ_prod (fun ck : Dev nD × CK => iprop(∃ κ : ℕ, cellInv ER (sched m) κ (kcell ck))),
    ← bigSep_univ_prod (fun ck : Dev nD × CK => (reached ER (kcell ck) 0 : sProp 𝕄))]
  iintro ⟨HI, Hat, #HR, Htok, Hl⟩
  ihave HK := (BI.bigSep_exists_pi Finset.univ (fun (ck : Dev nD × CK) (κ : ℕ) => (cellInv ER (sched m) κ (kcell ck) : sProp 𝕄))) $$ HI
  icases HK with ⟨%K, #HI⟩
  iapply (bigSep_with_persistent (R := records m K) fun c _ => deal m K c)
  isplitr
  · unfold records; isplitl; · iexact HI
    iexact HR
  rw [bigSep_sep', bigSep_sep']
  isplitl [Hat]; · iexact Hat
  isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem up_eq_iff (d c : Dev nD) (i : Fin 15) : up d i = c ↔ d = dn c i :=
  ⟨fun h => by rw [← h, dn_up], fun h => by rw [h, up_dn]⟩

theorem owedBar_cons (d : Dev nD) (i : Fin 15) (l : List (Fin 15)) : owedBar d (i :: l) = owedBar d l + tallyAt (barCell (up d i)) () 1 := rfl
theorem owedRecv_cons (d : Dev nD) (i : Fin 15) (l : List (Fin 15)) : owedRecv d (i :: l) = owedRecv d l + tallyAt (recvCell (up d i) i) () N := rfl

theorem bar_total (c : Dev nD) : ∀ l : List (Fin 15), ∑ d, owedBar d l (barCell c) () = l.length
  | [] => Finset.sum_eq_zero fun _ _ => rfl
  | i :: l => by
    have h : ∀ d, owedBar d (i :: l) (barCell c) () = owedBar d l (barCell c) () + if d = dn c i then 1 else 0 := fun d => by
      rw [owedBar_cons, Pi.add_apply, Finsupp.add_apply, tallyAt_apply]
      congr 1
      exact if_congr ⟨fun h => (up_eq_iff d c i).mp (congrArg Prod.fst (kcell_inj h.1)).symm, fun h => ⟨by rw [(up_eq_iff d c i).mpr h], rfl⟩⟩ rfl rfl
    rw [Finset.sum_congr rfl fun d _ => h d, Finset.sum_add_distrib, bar_total c l, Finset.sum_ite_eq' Finset.univ (dn c i) fun _ => 1, if_pos (Finset.mem_univ _)]
    rfl
theorem recv_total (c : Dev nD) (j : Fin 15) : ∀ l : List (Fin 15), ∑ d, owedRecv d l (recvCell c j) () = l.count j * N
  | [] => by rw [List.count_nil, Nat.zero_mul]; exact Finset.sum_eq_zero fun _ _ => rfl
  | i :: l => by
    have h : ∀ d, owedRecv d (i :: l) (recvCell c j) () = owedRecv d l (recvCell c j) () + if d = dn c i then (if i = j then N else 0) else 0 := fun d => by
      rw [owedRecv_cons, Pi.add_apply, Finsupp.add_apply, tallyAt_apply]
      congr 1
      by_cases h : recvCell c j = recvCell (up d i) i
      · have h' := kcell_inj h
        have h1 : c = up d i := congrArg Prod.fst h'
        have h2 : j = i := by have := congrArg Prod.snd h'; simpa using this
        rw [if_pos ⟨h, rfl⟩, if_pos ((up_eq_iff d c i).mp h1.symm), if_pos h2.symm]
      · rw [if_neg fun h' => h h'.1]
        by_cases h1 : d = dn c i
        · rw [if_pos h1]
          by_cases h2 : i = j
          · exact absurd (by rw [(up_eq_iff d c i).mpr h1, h2]) h
          · rw [if_neg h2]
        · rw [if_neg h1]
    rw [Finset.sum_congr rfl fun d _ => h d, Finset.sum_add_distrib, recv_total c j l, Finset.sum_ite_eq' Finset.univ (dn c i) fun _ => _, if_pos (Finset.mem_univ _), List.count_cons, Nat.add_mul]
    congr 1
    by_cases e : i = j
    · subst e; simp
    · simp [e]

theorem recv_bar_zero (d c : Dev nD) (l : List (Fin 15)) : owedRecv d l (barCell c) () = 0 := by
  by_contra h
  obtain ⟨i, hi⟩ := owedRecv_pos (Nat.pos_of_ne_zero h)
  cases congrArg Prod.snd (kcell_inj hi)
theorem bar_recv_zero (d c : Dev nD) (j : Fin 15) (l : List (Fin 15)) : owedBar d l (recvCell c j) () = 0 := by
  by_contra h
  obtain ⟨i, hi⟩ := owedBar_pos (Nat.pos_of_ne_zero h)
  cases congrArg Prod.snd (kcell_inj hi)

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  have h : ∀ d, O₀ d (barCell c) () = owedBar d l15 (barCell c) () := fun d => by
    unfold O₀; rw [Pi.add_apply, Finsupp.add_apply, recv_bar_zero, Nat.zero_add]
  rw [Pipeline.launchCredit_owing, Finsupp.single_eq_same, Finset.sum_congr rfl fun d _ => h d, bar_total]; rfl
theorem launch_recv (c : Dev nD) (i : Fin 15) :
    tallyOn (recvCell c i) (launchCredit (Pipeline.owing O₀) 0 (recvCell c i)) = (tallyAt (recvCell c i) () N : CellTallies nD τ sig Unit) := by
  unfold tallyAt; refine congrArg _ (Finsupp.ext fun u => ?_); cases u
  have h : ∀ d, O₀ d (recvCell c i) () = owedRecv d l15 (recvCell c i) () := fun d => by
    unfold O₀; rw [Pi.add_apply, Finsupp.add_apply, bar_recv_zero, Nat.add_zero]
  have hc : ∀ i : Fin 15, l15.count i = 1 := by decide
  rw [Pipeline.launchCredit_owing, Finsupp.single_eq_same, Finset.sum_congr rfl fun d _ => h d, recv_total, hc, Nat.one_mul]

omit [FloatOps F] in
theorem creds (c : Dev nD) : (Pipeline.launchCred O₀ c : sProp 𝕄) ⊢ credits c := by
  unfold Pipeline.launchCred credits
  have hs (Φ : SemLoc sig → sProp 𝕄) : bigSep Finset.univ Φ ⊢ bigSep (Finset.univ.map ⟨csem, csem_inj⟩) Φ := bigSep_subset (Finset.subset_univ _)
  iintro H
  ihave H := (hs _) $$ H
  ihave H := (Entails.of_eq ((bigSep_map ⟨csem, csem_inj⟩).trans (bigSep_CK _))) $$ H
  icases H with ⟨Hb, -, Hr⟩
  isplitl [Hb]
  · rw [← launch_bar]; iexact Hb
  · iapply (res_mono (fun i => Entails.of_eq (by rw [← launch_recv])) l15); iexact Hr

/-! ## The run -/

theorem share_eq (c : Dev nD) (w : Fin cfg0.W) : (dats m ρ 0 c).share w = fullShare := by unfold Dat.share; split <;> rfl

/-- What no device's body touches. -/
def kept (c : Dev nD) : sProp 𝕄 := iprop(((c : Thread nD τ).loc main_arg2) ↦{fullShare} m ((c : Thread nD τ).loc main_arg2))
/-- What a device's body leaves that outlives the kernel. -/
def outlives (c : Dev nD) : sProp 𝕄 := iprop(shards m c ∗ semVal (barCell c) 0)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  rw [Pipeline.unscopedRestP_none, unscopedRest0_eq]
  iintro ⟨⟨Hx, Hy, Hg⟩, Hlev, Hcr, -, HG⟩
  ihave Hc := (creds (F := F) c) $$ Hcr
  imodintro
  unfold start kept shards G'
  isplitr [Hg]
  · isplitl [HG]; · iexact HG
    isplitl [Hlev]; · iexact Hlev
    isplitl [Hc]; · iexact Hc
    isplitl [Hx]; · iexact Hx
    iexact Hy
  · iexact Hg

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratches c) from rfl, scopedRest0_eq]
  unfold scratches
  iintro ⟨Hs, -, Hr⟩
  isplitl [Hs] <;> iassumption

theorem phi1_exit (c : Dev nD) :
    (dats m ρ 0 c).Φ (Fin.last cfg0.N) ⊢ iprop(outlives m c ∗ Pipeline.ownSems0 osem c ∗ Pipeline.scopedRest cfg0.spec c) := by
  rw [show (dats m ρ 0 c).Φ (Fin.last cfg0.N) = left m c from rfl, scopedRest0_eq, ownSems0_eq]
  unfold left closedSems scratches outlives
  iintro ⟨Hsh, Hscr, ⟨Hb, Hs, Hr⟩, Hl⟩
  isplitl [Hsh Hb]
  · isplitl [Hsh] <;> iassumption
  isplitr [Hscr]
  · isplitl [Hl]; · iexact Hl
    isplitl [Hs] <;> iassumption
  iexact Hscr

theorem stage_level (c : Dev nD) (w : Fin cfg0.W) (s : Fin (cfg0.win w).nbuf) : lv ((c : Thread nD τ), .dma ((cfg0.win w).sem s)) () = 0 :=
  lv_other c (by fin_cases w; fin_cases s; decide +kernel)

theorem mayWait_stage (c : Dev nD) (w : Fin cfg0.W) (s : Fin (cfg0.win w).nbuf) (O : CellTallies nD τ sig Unit) (hO : O = O₀ c ∨ O = 0) :
    (levAts L lv : sProp 𝕄) ⊢ MayWait (c : Thread nD τ) (.dma ((cfg0.win w).sem s)) () O := by
  rcases hO with rfl | rfl
  · exact mayWait_zero c (stage_level c w s) l15 l15
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c w s _ (by
      rcases t with ⟨_ | _, ht⟩
      · exact Or.inl rfl
      · exact Or.inr rfl)

/-- What the run leaves of a device besides its result array. -/
def Kept (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

theorem read_kept (c : Dev nD) (s' : Phys nD τ sig (Elt F)) :
    iprop(outlives m c ∗ kept m c ∗ SI s') ⊢ |={Set.univ}=> iprop(⌜Kept m c s'.mem⌝ ∗ SI s' : sProp 𝕄) := by
  unfold outlives kept shards
  iintro ⟨⟨⟨Hx, Hy⟩, Hb⟩, Hg, HSI⟩
  icombine HSI Hx gives %hx
  icombine HSI Hy gives %hy
  icombine HSI Hg gives %hg
  ihave Hu := (Entails.of_eq (unscopedSems0_eq (F := F) c).symm) $$ Hb
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hx i (Finset.mem_univ i), funext fun i => hy i (Finset.mem_univ i), funext fun i => hg i (Finset.mem_univ i)⟩
  · iexact HSI

/-- The final array of a device's result. -/
def finalA (c : Dev nD) (w : Fin cfg0.W) : Buf (Elt F) ((cfg0.win w).arr.view.loc (c : Thread nD τ)) := (dats m ρ 0 c).arrAt w cfg0.N

set_option maxRecDepth 50000 in
/-- The run of the whole program: every device's result array ends at its final contents, its arguments are as they
    were, and every semaphore counter is at zero. -/
theorem run_main : θ_run defs (onTc (τ := τ) (main (F := F))) (s₀ m ρ)
    (fun r => (∀ c : Dev nD, (∀ w : Fin cfg0.W, r.2.mem ((cfg0.win w).arr.view.loc (c : Thread nD τ)) = finalA m ρ c w) ∧ Kept m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H := (own_pair_emb EX _ _) $$ HX
      icases H with ⟨HX, -⟩
      imod (fund_ring m) $$ HX with HG
      imodintro
      isplitl [HP] <;> iassumption)
    (hglob := glob m)
    (hA := fun _ _ => rfl) (hpf := fun _ k => k.elim0)
    (X := start m) (Y := outlives m) (Z := kept m)
    (hX := start_intro m ρ) (hin := phi0_intro m ρ) (hout := phi1_exit m ρ)
    (QY := Kept m) (hY := read_kept m)
    (hQ := fun _ h hs => ⟨fun c => ⟨(h c).1, (h c).2.2⟩, sem_eq_zero hs fun c => (h c).2.2.1⟩)

end Cert.KernelIdeal.Loop

end
-- ==== Proof.Value.Final.lean ====
/-
The kernel's result array after the run: what the body left in its result buffer, written back once and whole.
-/
module

public import proofs.«01_k».proof.Proof.KernelIdeal.Run
public import Idealize.ShloMosaic.Lib.Pipeline.ValueKit.Geometry
public import Idealize.ShloMosaic.PureOps.Ideal

@[expose] public section

noncomputable section

namespace Cert.Value

open Idealize.ShloMosaic Idealize.ShloMosaic.TcCoe Idealize.SL.Sem Cert.KernelIdeal Cert.KernelIdeal.Gen Cert.KernelIdeal.Loop

variable (m : (ℓ : Loc nD τ sig) → Buf (Elt Ideal) ℓ) (ρ : Dev nD → PrngReg)

theorem finalA_eq (c : Dev nD) : finalA m ρ c 0 = k0_pay1 (gath m) :=
  (dats m ρ 0 c).arrAt_eq_of_after_last 0 (t0_0 : Fin cfg0.N) (by decide +kernel) _ fun _ => rfl

end Cert.Value

end
-- ==== Proof.Value.Algebra.lean ====
/-
Facts on extended reals and on finite sums that the comparison of the two programs needs and that mention neither.
-/
module

public import Idealize.ShloMosaic.PureOps.Ideal

@[expose] public section

noncomputable section

namespace Cert.Value

open Idealize.ShloMosaic

/-- A square is not negative, whatever extended real is squared. -/
theorem square_nonneg (x : EReal) : 0 ≤ x * x := by
  induction x with
  | bot => simp
  | top => simp
  | coe r => exact_mod_cast mul_self_nonneg r

/-- Above zero, one divided by the square root is the reciprocal square root, infinity included. -/
theorem div_sqrt {v : EReal} (hv : 0 < v) : Ideal.div 1 (Ideal.sqrt v) = Ideal.rsqrt v := by
  induction v with
  | bot => exact absurd hv (by simp)
  | top => simp [Ideal.div]
  | coe r =>
    have hr : 0 < r := by exact_mod_cast hv
    have hs : Real.sqrt r ≠ 0 := (Real.sqrt_pos.mpr hr).ne'
    rw [Ideal.sqrt_coe, Ideal.rsqrt_coe, if_neg hr.not_gt, if_neg hr.not_gt, if_neg hr.ne']
    rw [Ideal.div, if_neg (by exact_mod_cast hs), one_mul, EReal.coe_inv]

/-- Dividing what is not negative by a positive real gives nothing negative. -/
theorem div_nonneg {x : EReal} {r : ℝ} (hx : 0 ≤ x) (hr : 0 < r) : 0 ≤ Ideal.div x (r : EReal) := by
  rw [Ideal.div, if_neg (by exact_mod_cast hr.ne'), ← EReal.coe_inv]
  exact mul_nonneg hx (by exact_mod_cast (inv_pos.mpr hr).le)

/-- Row `j` of block `i`, of `a` blocks of `b` rows, is one of the `a * b` rows. -/
theorem row_lt {a b N : ℕ} (hN : a * b = N) (i : Fin a) (j : Fin b) : b * i.val + j.val < N :=
  calc b * i.val + j.val < b * i.val + b := Nat.add_lt_add_left j.isLt _
    _ = b * (i.val + 1) := (Nat.mul_succ _ _).symm
    _ ≤ b * a := Nat.mul_le_mul_left _ i.isLt
    _ = N := by rw [Nat.mul_comm, hN]

/-- Summing block by block is summing over all the rows. -/
theorem sum_blocks {M : Type*} [AddCommMonoid M] {a b N : ℕ} (hN : a * b = N) (g : Fin N → M) :
    (∑ i : Fin a, ∑ j : Fin b, g ⟨b * i.val + j.val, row_lt hN i j⟩) = ∑ n, g n := by
  subst hN
  rw [← Equiv.sum_comp (finProdFinEquiv (m := a) (n := b)) g, Fintype.sum_prod_type]
  exact Finset.sum_congr rfl fun i _ => Finset.sum_congr rfl fun j _ => congrArg g (Fin.ext (Nat.add_comm _ _))

end Cert.Value

end
-- ==== Proof.Value.Row.lean ====
/-
One row of the arrays: its mean, its variance, and what it adds to each entry of the result.
Both programs are read as sums of these (`term`), the kernel over the rows of each chunk of each device and the
reference over all the rows.  The two constants both programs spell are given their values here.
-/
module

public import Idealize.ShloMosaic.PureOps.Ideal
public import proofs.«01_k».proof.Proof.Value.Algebra

@[expose] public section

noncomputable section

namespace Cert.Value

open Idealize.ShloMosaic

/-- The length of a row, as both programs write it. -/
abbrev width : EReal := Ideal.ofBits .f32 0x45000000#32
/-- The small number both programs add to a variance before taking its root. -/
abbrev eps : EReal := Ideal.ofBits .f32 0x3727C5AC#32

theorem width_eq : width = ((2048 : ℝ) : EReal) := by
  simp [Ideal.ofBits, Ideal.ieee, -EReal.coe_mul]; norm_num

theorem eps_pos : 0 < eps := by
  have h : eps = ((10995116 * 2 ^ (-40 : ℤ) : ℝ) : EReal) := by
    simp [Ideal.ofBits, Ideal.ieee, -EReal.coe_mul]
  rw [h]; exact_mod_cast (by positivity : (0 : ℝ) < 10995116 * 2 ^ (-40 : ℤ))

/-- The mean of a row. -/
def mean (x : Fin 2048 → EReal) : EReal := Ideal.div (∑ l, x l) width

/-- The variance of a row. -/
def variance (x : Fin 2048 → EReal) : EReal := Ideal.div (∑ l, (x l - mean x) * (x l - mean x)) width

/-- What a row of `x` and the row of `dy` beside it add to entry `(r, k)` of the result: for `r = 0` the entry of `dy`
    times the normalised entry of `x`, for `r = 1` the entry of `dy`. -/
def term (r : Fin 2) (x y : Fin 2048 → EReal) (k : Fin 2048) : EReal :=
  if r.val < 1 then y k * ((x k - mean x) * Ideal.rsqrt (variance x + eps)) else y k

/-- A variance is not negative, infinite entries included. -/
theorem variance_nonneg (x : Fin 2048 → EReal) : 0 ≤ variance x := by
  rw [variance, width_eq]
  exact div_nonneg (Finset.sum_nonneg fun l _ => square_nonneg _) (by norm_num)

/-- So the reciprocal of the root of a variance moved by `eps` may be written either way. -/
theorem scale_eq (x : Fin 2048 → EReal) : Ideal.div 1 (Ideal.sqrt (variance x + eps)) = Ideal.rsqrt (variance x + eps) :=
  div_sqrt (lt_of_lt_of_le eps_pos (le_add_of_nonneg_left (variance_nonneg x)))

end Cert.Value

end
-- ==== Proof.Value.Kernel.lean ====
/-
What the kernel computes, entry by entry, over extended reals: the sum over the devices, over the chunks of a device's
shards and over the rows of a chunk of what each row adds (`result_apply`).
-/
module

public import proofs.«01_k».proof.Proof.KernelIdeal.Body
public import proofs.«01_k».proof.Proof.Value.Row
public import Idealize.ShloMosaic.Lib.Pointwise

@[expose] public section

noncomputable section

namespace Cert.Value

open Idealize.ShloMosaic Idealize.ShloMosaic.TcCoe Cert.KernelIdeal Cert.KernelIdeal.Gen Cert.KernelIdeal.Loop

/-- A row of a chunk, of a shard. -/
abbrev rowOf {n : ℕ} (X : Vec Ideal ⟨2, ![n, 2048]⟩ .f32) (i : Fin n) : Fin 2048 → EReal := fun l => X (ix2 i l)

/-- A chunk's contribution is the sum of its rows'. -/
theorem chunk_apply (x y : Vec Ideal S128x2048 .f32) (r : Fin 2) (k : Fin 2048) :
    k0_pay39 x y (ix2 r k) = ∑ i : Fin 128, term r (rowOf x i) (rowOf y i) k := by
  pointwise [k0_pay39]
  unfold term
  by_cases h : r.val < 1
  · rw [dif_pos h]
    exact Finset.sum_congr rfl fun i _ => (if_pos h).symm
  · rw [dif_neg h]
    exact Finset.sum_congr rfl fun i _ => (if_neg h).symm

/-- The accumulator starts at zero. -/
theorem zero_apply (r : Fin 2) (k : Fin 2048) : (k0_pay2 : FVec Ideal S2x2048 .f32) (ix2 r k) = 0 := by
  pointwise [k0_pay2]

/-- The sixteen slots are added. -/
theorem total_apply (v : Vec Ideal S16x2x2048 .f32) (r : Fin 2) (k : Fin 2048) : k0_pay1 v (ix2 r k) = ∑ d : Fin 16, v (ix3 d r k) := by
  pointwise [k0_pay1]

/-- A partial result is put in its slot as it is. -/
theorem put_apply (v : FVec Ideal S2x2048 .f32) (r : Fin 2) (k : Fin 2048) : k0_pay41 v (ix3 0 r k) = v (ix2 r k) := by
  pointwise [k0_pay41]

/-- Row `i` of chunk `j` is row `128 j + i` of the shard. -/
theorem chunkOf_apply (X : FVec Ideal S2048x2048 .f32) (j : Fin 16) (i : Fin 128) (l : Fin 2048) :
    chunkOf X j (ix2 i l) = X (ix2 ⟨128 * j.val + i.val, row_lt rfl j i⟩ l) := by
  refine congrArg X (funext fun a => ?_)
  fin_cases a
  · exact Fin.ext (by show 128 * j.val + 1 * i.val = 128 * j.val + i.val; omega)
  · exact Fin.ext (by show 0 + 1 * l.val = l.val; omega)

/-- The accumulator after a list of chunks: what it held and the chunks' contributions. -/
theorem accOn_apply (X Y : FVec Ideal S2048x2048 .f32) (r : Fin 2) (k : Fin 2048) :
    ∀ (l : List (Fin 16)) (a : FVec Ideal S2x2048 .f32),
      accOn X Y l a (ix2 r k) = a (ix2 r k) + (l.map fun j => k0_pay39 (chunkOf X j) (chunkOf Y j) (ix2 r k)).sum
  | [], a => by rw [List.map_nil, List.sum_nil, add_zero]; rfl
  | j :: l, a => by
    rw [List.map_cons, List.sum_cons, ← add_assoc]
    exact accOn_apply X Y r k l (step a (chunkOf X j) (chunkOf Y j))

/-- A device's partial result is the sum over its rows. -/
theorem partial_apply (X Y : FVec Ideal S2048x2048 .f32) (r : Fin 2) (k : Fin 2048) :
    accOn X Y l16 k0_pay2 (ix2 r k) = ∑ n : Fin 2048, term r (rowOf X n) (rowOf Y n) k := by
  rw [accOn_apply, zero_apply, zero_add, show l16 = List.finRange 16 from rfl, ← Fin.sum_univ_def,
    ← sum_blocks (a := 16) (b := 128) rfl fun n : Fin 2048 => term r (rowOf X n) (rowOf Y n) k]
  refine Finset.sum_congr rfl fun j _ => ?_
  rw [chunk_apply]
  refine Finset.sum_congr rfl fun i _ => ?_
  have h (Z : FVec Ideal S2048x2048 .f32) : rowOf (chunkOf Z j) i = rowOf Z ⟨128 * j.val + i.val, row_lt rfl j i⟩ :=
    funext fun l => chunkOf_apply Z j i l
  rw [h X, h Y]

open Idealize.SL.Sem

variable (m : (ℓ : Loc nD τ sig) → Buf (Elt Ideal) ℓ)

theorem inSlot_ix (d : Fin 16) (r : Fin 2) (k : Fin 2048) : inSlot (ix3 d r k) = ix3 0 r k := by
  funext a; fin_cases a <;> rfl

/-- **The kernel's result**: the sum over the devices and over the rows of their shards. -/
theorem result_apply (r : Fin 2) (k : Fin 2048) :
    k0_pay1 (gath m) (ix2 r k) = ∑ d : Fin 16, ∑ n : Fin 2048, term r (rowOf (xIn m d) n) (rowOf (yIn m d) n) k := by
  rw [total_apply]
  refine Finset.sum_congr rfl fun d _ => ?_
  show k0_pay41 (acc m d) (inSlot (ix3 d r k)) = _
  rw [inSlot_ix, put_apply]
  exact partial_apply (xIn m d) (yIn m d) r k

end Cert.Value

end
-- ==== Proof.Value.Reference.lean ====
/-
What the reference computes, entry by entry, over extended reals: the sum over all the rows of what each row adds
(`refOut_apply`).  The reference's term is cut into named pieces, each read at an index.
-/
module

public import proofs.«01_k».proof.Proof.Gen.ReferenceIdeal.Run
public import proofs.«01_k».proof.Proof.Value.Row
public import Idealize.ShloMosaic.Lib.Pointwise

@[expose] public section

noncomputable section

namespace Cert.Value

open Idealize.ShloMosaic Idealize.ShloMosaic.TcCoe Cert.ReferenceIdeal Cert.ReferenceIdeal.Gen

/-- The reference's mean of each row. -/
def refMean (x : FVec Ideal S32768x2048 .f32) : FVec Ideal S32768x1 .f32 :=
  Host.divf (broadcastInDim S32768x1 ![0] bcast_S32768_S32768x1_0 (Host.reduceAdd x (constant S_ .f32 0x00000000#32) reducesTo_S32768x2048_S32768_d1 h_S_))
    (broadcastInDim S32768x1 ![] bcast_S_S32768x1 (constant S_ .f32 0x45000000#32))

/-- Each row less its mean. -/
def refDev (x : FVec Ideal S32768x2048 .f32) : FVec Ideal S32768x2048 .f32 :=
  subf x (broadcastInDim S32768x2048 ![0, 1] bcast_S32768x1_S32768x2048_0_1 (refMean x))

/-- How many entries the reference divides the sum of squares by: all of a row's, less none. -/
def refCount : FVec Ideal S_ .f32 := subf (constant S_ .f32 0x45000000#32) (sitofp .f32 (constantI S_ 32 0#32))

/-- The reference's variance of each row, with its guard against a count that is not positive. -/
def refVar (x : FVec Ideal S32768x2048 .f32) : FVec Ideal S32768x1 .f32 :=
  select (broadcastInDim S32768x1 ![] bcast_S_S32768x1 (cmpf .ogt refCount (constant S_ .f32 0x00000000#32)))
    (Host.divf (broadcastInDim S32768x1 ![0] bcast_S32768_S32768x1_0
        (Host.reduceAdd (mulf (refDev x) (refDev x)) (constant S_ .f32 0x00000000#32) reducesTo_S32768x2048_S32768_d1 h_S_))
      (broadcastInDim S32768x1 ![] bcast_S_S32768x1 refCount))
    (broadcastInDim S32768x1 ![] bcast_S_S32768x1 (id (constant S_ .f32 0x7FC00000#32)))

/-- The reference's reciprocal of each row's standard deviation. -/
def refScale (x : FVec Ideal S32768x2048 .f32) : FVec Ideal S32768x1 .f32 :=
  Host.divf (broadcastInDim S32768x1 ![] bcast_S_S32768x1 (constant S_ .f32 0x3F800000#32))
    (Host.sqrt (addf (refVar x) (broadcastInDim S32768x1 ![] bcast_S_S32768x1 (constant S_ .f32 0x3727C5AC#32))))

/-- The reference's result: the sums down the columns of `dy` times the normalised `x`, and of `dy`. -/
def refOut (x y : FVec Ideal S32768x2048 .f32) : FVec Ideal S2x2048 .f32 :=
  concatenate S2x2048 0
    [⟨S1x2048, broadcastInDim S1x2048 ![1] bcast_S2048_S1x2048_1
        (Host.reduceAdd (mulf y (mulf (refDev x) (broadcastInDim S32768x2048 ![0, 1] bcast_S32768x1_S32768x2048_0_1 (refScale x))))
          (constant S_ .f32 0x00000000#32) reducesTo_S32768x2048_S2048_d0 h_S_)⟩,
     ⟨S1x2048, broadcastInDim S1x2048 ![1] bcast_S2048_S1x2048_1
        (Host.reduceAdd y (constant S_ .f32 0x00000000#32) reducesTo_S32768x2048_S2048_d0 h_S_)⟩]
    concatenates_S1x2048_S1x2048_S2x2048_d0

/-- A row of the whole arrays. -/
abbrev wholeRow (x : FVec Ideal S32768x2048 .f32) (n : Fin 32768) : Fin 2048 → EReal := fun l => x (ix2 n l)

theorem refMean_apply (x : FVec Ideal S32768x2048 .f32) (n : Fin 32768) : refMean x (ix2 n 0) = mean (wholeRow x n) := by
  pointwise [refMean]
  rfl

theorem refDev_apply (x : FVec Ideal S32768x2048 .f32) (n : Fin 32768) (k : Fin 2048) :
    refDev x (ix2 n k) = x (ix2 n k) - mean (wholeRow x n) := by
  pointwise [refDev]
  rw [refMean_apply]

/-- The count is the length of a row. -/
theorem refCount_apply : refCount ix0 = width := by
  pointwise [refCount]
  have h : ((((0#32 : BitVec 32).toInt : ℝ)) : EReal) = 0 := by simp
  exact (congrArg (width - ·) h).trans (sub_zero _)

/-- The guard holds, and the variance is the mean of the squares. -/
theorem refVar_apply (x : FVec Ideal S32768x2048 .f32) (n : Fin 32768) : refVar x (ix2 n 0) = variance (wholeRow x n) := by
  pointwise [refVar]
  rw [refCount_apply, if_pos (by rw [width_eq]; exact_mod_cast (by norm_num : (0 : ℝ) < 2048)), variance]
  exact congrArg (Ideal.div · width) (Finset.sum_congr rfl fun l _ => by rw [refDev_apply])

/-- The quotient by the root is the reciprocal root. -/
theorem refScale_apply (x : FVec Ideal S32768x2048 .f32) (n : Fin 32768) :
    refScale x (ix2 n 0) = Ideal.rsqrt (variance (wholeRow x n) + eps) := by
  pointwise [refScale]
  rw [refVar_apply]
  exact scale_eq _

/-- **The reference's result**: the sum over all the rows. -/
theorem refOut_apply (x y : FVec Ideal S32768x2048 .f32) (r : Fin 2) (k : Fin 2048) :
    refOut x y (ix2 r k) = ∑ n : Fin 32768, term r (wholeRow x n) (wholeRow y n) k := by
  pointwise [refOut]
  unfold term
  by_cases h : r.val < 1
  · rw [dif_pos h]
    exact Finset.sum_congr rfl fun n _ => by rw [if_pos h, refDev_apply, refScale_apply]
  · rw [dif_neg h]
    exact Finset.sum_congr rfl fun n _ => (if_neg h).symm

end Cert.Value

end
-- ==== Proof.Value.Equal.lean ====
/-
The two results are one: the devices' shards are blocks of the whole arrays, so the kernel's sum over devices and over
rows of a shard is the reference's sum over all the rows (`result_eq`).
-/
module

public import proofs.«01_k».proof.Proof.Value.Kernel
public import proofs.«01_k».proof.Proof.Value.Reference
public import Idealize.ShloMosaic.Lib.Layout

@[expose] public section

noncomputable section

namespace Cert.Value

open Idealize.ShloMosaic Idealize.ShloMosaic.TcCoe Idealize.SL.Sem Cert.KernelIdeal.Loop

/-- Row `n` of device `d`'s block is row `2048 d + n` of the whole. -/
theorem row_block (v : Vec Ideal ⟨2, ![32768, 2048]⟩ .f32) (d : Fin 16) (n : Fin 2048) :
    rowOf (Layout.block ⟨2, ![2048, 2048]⟩ ⟨2, ![32768, 2048]⟩ 0 16 d v) n = wholeRow v ⟨2048 * d.val + n.val, row_lt rfl d n⟩ := by
  funext l
  refine congrArg v (funext fun a => ?_)
  fin_cases a
  · exact Fin.ext (by show d.val * 2048 + n.val = 2048 * d.val + n.val; omega)
  · rfl

variable (m : (ℓ : Loc Cert.KernelIdeal.nD Cert.KernelIdeal.τ Cert.KernelIdeal.sig) → Buf (Elt Ideal) ℓ)

/-- **What the kernel leaves on every device is what the reference computes of the whole arrays.** -/
theorem result_eq (x y : Vec Ideal ⟨2, ![32768, 2048]⟩ .f32)
    (hx : ∀ d : Fin 16, xIn m d = Layout.block ⟨2, ![2048, 2048]⟩ ⟨2, ![32768, 2048]⟩ 0 16 d x)
    (hy : ∀ d : Fin 16, yIn m d = Layout.block ⟨2, ![2048, 2048]⟩ ⟨2, ![32768, 2048]⟩ 0 16 d y) :
    Cert.KernelIdeal.Gen.k0_pay1 (gath m) = refOut x y := by
  funext j
  rw [eq_ix2 j]
  refine (result_apply m (j 0) (j 1)).trans (Eq.trans ?_ (refOut_apply x y (j 0) (j 1)).symm)
  rw [← sum_blocks (a := 16) (b := 2048) rfl fun n : Fin 32768 => term (j 0) (wholeRow x n) (wholeRow y n) (j 1)]
  refine Finset.sum_congr rfl fun d _ => Finset.sum_congr rfl fun n _ => ?_
  rw [hx d, hy d]
  exact congrArg₂ (fun a b => term (j 0) a b (j 1)) (row_block x d n) (row_block y d n)

end Cert.Value

end
-- ==== Proof.lean ====
/-
The five claims about the kernel and its reference, put together.

The runs of the kernel are `Cert.Kernel.Loop.run_main` and `Cert.KernelIdeal.Loop.run_main` (proof/Proof/Kernel and
proof/Proof/KernelIdeal: the same text about the two programs), the reference's is `Cert.ReferenceIdeal.Value.run`, and
that the two results agree is `Cert.Value.result_eq` (proof/Proof/Value).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Final
public import proofs.«01_k».proof.Proof.Value.Equal
public import Idealize.ShloMosaic.Adequacy
public import Idealize.ShloMosaic.Init

@[expose] public section

noncomputable section

namespace Cert.Proof

open Idealize.ShloMosaic Idealize.SL.Sem

/-- The kernel as printed: it ends, its arguments are as they were, and every semaphore counter is zero again. -/
theorem frame_kernel : Cert.quiescent_Kernel := fun m ρ _ =>
  (θ_run Cert.Kernel.defs _ _).mono (fun _ h => ⟨fun c => (h.1 c).2.2, h.2⟩) (Cert.Kernel.Loop.run_main (F := Bits) m ρ)

/-- The same of the kernel over extended reals. -/
theorem frame_ideal : Cert.quiescent_KernelIdeal := fun m ρ _ =>
  (θ_run Cert.KernelIdeal.defs _ _).mono (fun _ h => ⟨fun c => (h.1 c).2.2, h.2⟩) (Cert.KernelIdeal.Loop.run_main (F := Ideal) m ρ)

/-- The reference runs and leaves its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On every device the kernel's result is the reference's of the whole arrays: both are `Cert.Value.refOut`, the kernel's
    by `Cert.Value.result_eq` and the reference's as its run states it. -/
theorem same_result : Cert.algebraic_KernelIdeal_ReferenceIdeal := by
  intro m ρ m' ρ' _ hagree
  refine ⟨Cert.Value.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨((h.1 c).1 0).trans ?_, (h.1 c).2.2⟩)
      (Cert.KernelIdeal.Loop.run_main (F := Ideal) m ρ)
    exact (Cert.Value.finalA_eq m ρ c).trans (Cert.Value.result_eq m _ _ (fun d => (hagree d).1) fun d => (hagree d).2.1)
  · exact (θ_run Cert.ReferenceIdeal.defs _ _).mono (fun _ h => h 0) (Cert.ReferenceIdeal.Value.run (F := Ideal) m' ρ')

/-- Everything the certificate claims. -/
theorem claim : Cert.Claim :=
  ⟨Cert.Kernel.Gen.facts, Cert.KernelIdeal.Gen.facts, Cert.ReferenceIdeal.Gen.facts,
    frame_kernel, frame_ideal, frame_reference, trivial, same_result⟩

end Cert.Proof

end
